-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3DD105EC#32 (((Real.sqrt 96)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 256]⟩ (Layout.meshBlock [2, 4, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![256, 1024]⟩ (Layout.meshBlock [2, 4, 4] ![[1], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![256, 1024]⟩ (Layout.meshBlock [2, 4, 4] ![[1], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v32) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S512x1024 : Shape := ⟨2, ![512, 1024]⟩
abbrev S4x512x64 : Shape := ⟨3, ![4, 512, 64]⟩
abbrev S4x64x256 : Shape := ⟨3, ![4, 64, 256]⟩
abbrev S4x512x256 : Shape := ⟨3, ![4, 512, 256]⟩
abbrev S4 : Shape := ⟨1, ![4]⟩
abbrev S2x4 : Shape := ⟨2, ![2, 4]⟩
abbrev S_ : Shape := ⟨0, ![]⟩
abbrev S512x64 : Shape := ⟨2, ![512, 64]⟩
abbrev S1x512x64 : Shape := ⟨3, ![1, 512, 64]⟩
abbrev S64x256 : Shape := ⟨2, ![64, 256]⟩
abbrev S1x64x256 : Shape := ⟨3, ![1, 64, 256]⟩
abbrev S1 : Shape := ⟨1, ![1]⟩
abbrev S1024x256 : Shape := ⟨2, ![1024, 256]⟩
abbrev S512x256 : Shape := ⟨2, ![512, 256]⟩
abbrev S1024x128 : Shape := ⟨2, ![1024, 128]⟩
abbrev S512x128 : Shape := ⟨2, ![512, 128]⟩
abbrev S512x32 : Shape := ⟨2, ![512, 32]⟩
abbrev S256x256 : Shape := ⟨2, ![256, 256]⟩
abbrev S256x32 : Shape := ⟨2, ![256, 32]⟩
abbrev S256x64 : Shape := ⟨2, ![256, 64]⟩
abbrev S256x96 : Shape := ⟨2, ![256, 96]⟩
abbrev S256 : Shape := ⟨1, ![256]⟩
abbrev S256x1 : Shape := ⟨2, ![256, 1]⟩
abbrev S1x256x64 : Shape := ⟨3, ![1, 256, 64]⟩
abbrev S1x1 : Shape := ⟨2, ![1, 1]⟩
abbrev S1x256x256 : Shape := ⟨3, ![1, 256, 256]⟩
abbrev S256x1024 : Shape := ⟨2, ![256, 1024]⟩

abbrev nBuf : Space → Nat
  | .hbm => 9
  | .vmem => 15
  | .smem => 0
  | _ => 0

abbrev bufTy : (tb : Table) → Fin (tcTables nBuf tb) → BufTy
  | .hbm, ⟨0, _⟩ => ⟨S2x256x1024, .f32⟩
  | .hbm, ⟨1, _⟩ => ⟨S1024x64, .f32⟩
  | .hbm, ⟨2, _⟩ => ⟨S64x1024, .f32⟩
  | .hbm, ⟨3, _⟩ => ⟨S64x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S512x1024, .f32⟩
  | .local _ .vmem, ⟨0, _⟩ => ⟨S2x256x1024, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x512, .f32⟩
  | .local _ .vmem, ⟨6, _⟩ => ⟨S1024x32, .f32⟩
  | .local _ .vmem, ⟨7, _⟩ => ⟨S1024x1024, .f32⟩
  | .local _ .vmem, ⟨8, _⟩ => ⟨S512x1024, .f32⟩
  | .local _ .vmem, ⟨9, _⟩ => ⟨S4x512x64, .bf16⟩
  | .local _ .vmem, ⟨10, _⟩ => ⟨S4x64x256, .bf16⟩
  | .local _ .vmem, ⟨11, _⟩ => ⟨S4x64x256, .bf16⟩
  | .local _ .vmem, ⟨12, _⟩ => ⟨S4x64x256, .bf16⟩
  | .local _ .vmem, ⟨13, _⟩ => ⟨S4x64x256, .bf16⟩
  | .local _ .vmem, ⟨14, _⟩ => ⟨S4x512x256, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 1 49 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v10 : BitVec 1 := Scalar.cmpi .ne v5 c0_i32
  let v11 : BitVec 32 := Scalar.extui v10
  let c0_i32_2 : BitVec 32 := 0#32
  let v12 : BitVec 1 := Scalar.cmpi .ne v11 c0_i32_2
  v12

def k0_dev1 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v480 : BitVec 32 := Scalar.muli v2 c16_i32_253
  let v481 : BitVec 32 := Scalar.addi c0_i32_254 v480
  let c0_i32_252 : BitVec 32 := 0#32
  let c4_i32_255 : BitVec 32 := 4#32
  let v482 : BitVec 32 := Scalar.muli c0_i32_252 c4_i32_255
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v484 : BitVec 32 := Scalar.muli v8 c1_i32_256
  let v485 : BitVec 32 := Scalar.addi v483 v484
  v485.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_3 : BitVec 32 := 1#32
  let v13 : BitVec 1 := Scalar.cmpi .ne v5 c1_i32_3
  let v14 : BitVec 32 := Scalar.extui v13
  let c0_i32_4 : BitVec 32 := 0#32
  let v15 : BitVec 1 := Scalar.cmpi .ne v14 c0_i32_4
  v15

def k0_dev2 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v480 : BitVec 32 := Scalar.muli v2 c16_i32_253
  let v481 : BitVec 32 := Scalar.addi c0_i32_254 v480
  let c1_i32_252 : BitVec 32 := 1#32
  let c4_i32_255 : BitVec 32 := 4#32
  let v482 : BitVec 32 := Scalar.muli c1_i32_252 c4_i32_255
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v484 : BitVec 32 := Scalar.muli v8 c1_i32_256
  let v485 : BitVec 32 := Scalar.addi v483 v484
  v485.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_5 : BitVec 32 := 2#32
  let v16 : BitVec 1 := Scalar.cmpi .ne v5 c2_i32_5
  let v17 : BitVec 32 := Scalar.extui v16
  let c0_i32_6 : BitVec 32 := 0#32
  let v18 : BitVec 1 := Scalar.cmpi .ne v17 c0_i32_6
  v18

def k0_dev3 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v480 : BitVec 32 := Scalar.muli v2 c16_i32_253
  let v481 : BitVec 32 := Scalar.addi c0_i32_254 v480
  let c2_i32_252 : BitVec 32 := 2#32
  let c4_i32_255 : BitVec 32 := 4#32
  let v482 : BitVec 32 := Scalar.muli c2_i32_252 c4_i32_255
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v484 : BitVec 32 := Scalar.muli v8 c1_i32_256
  let v485 : BitVec 32 := Scalar.addi v483 v484
  v485.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v19 : BitVec 1 := Scalar.cmpi .ne v5 c3_i32
  let v20 : BitVec 32 := Scalar.extui v19
  let c0_i32_7 : BitVec 32 := 0#32
  let v21 : BitVec 1 := Scalar.cmpi .ne v20 c0_i32_7
  v21

def k0_dev4 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v480 : BitVec 32 := Scalar.muli v2 c16_i32_253
  let v481 : BitVec 32 := Scalar.addi c0_i32_254 v480
  let c3_i32_252 : BitVec 32 := 3#32
  let c4_i32_255 : BitVec 32 := 4#32
  let v482 : BitVec 32 := Scalar.muli c3_i32_252 c4_i32_255
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v484 : BitVec 32 := Scalar.muli v8 c1_i32_256
  let v485 : BitVec 32 := Scalar.addi v483 v484
  v485.toNat
def k0_off1 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v31 : Index := Scalar.indexCast v5
  let c0_12 : Index := 0#32
  let c0_13 : Index := 0#32
  ![v31.toNat, 0, 0]
def k0_off2 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v83 : Index := Scalar.indexCast v5
  let c0_48 : Index := 0#32
  let c0_49 : Index := 0#32
  ![v83.toNat, 0, 0]
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_57 : BitVec 32 := 0#32
  let v97 : BitVec 1 := Scalar.cmpi .ne v5 c0_i32_57
  let v98 : BitVec 32 := Scalar.extui v97
  let c0_i32_58 : BitVec 32 := 0#32
  let v99 : BitVec 1 := Scalar.cmpi .ne v98 c0_i32_58
  v99

def k0_off3 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off4 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_257 : BitVec 32 := 0#32
  let c0_i32_258 : BitVec 32 := 0#32
  ![v5.toNat, 0, 0]
def k0_dev5 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v480 : BitVec 32 := Scalar.muli v2 c16_i32_253
  let v481 : BitVec 32 := Scalar.addi c0_i32_254 v480
  let c0_i32_252 : BitVec 32 := 0#32
  let c4_i32_255 : BitVec 32 := 4#32
  let v482 : BitVec 32 := Scalar.muli c0_i32_252 c4_i32_255
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v484 : BitVec 32 := Scalar.muli v8 c1_i32_256
  let v485 : BitVec 32 := Scalar.addi v483 v484
  v485.toNat
def k0_off5 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_268 : BitVec 32 := 0#32
  let c0_i32_269 : BitVec 32 := 0#32
  ![v5.toNat, 0, 0]
def k0_dev6 (d0 : Dev nD) : Nat :=
  let c0_i32_265 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_264 : BitVec 32 := 16#32
  let v494 : BitVec 32 := Scalar.muli v2 c16_i32_264
  let v495 : BitVec 32 := Scalar.addi c0_i32_265 v494
  let c0_i32_263 : BitVec 32 := 0#32
  let c4_i32_266 : BitVec 32 := 4#32
  let v496 : BitVec 32 := Scalar.muli c0_i32_263 c4_i32_266
  let v497 : BitVec 32 := Scalar.addi v495 v496
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267 : BitVec 32 := 1#32
  let v498 : BitVec 32 := Scalar.muli v8 c1_i32_267
  let v499 : BitVec 32 := Scalar.addi v497 v498
  v499.toNat
def k0_dev7 (d0 : Dev nD) : Nat :=
  let c0_i32_276 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_275 : BitVec 32 := 16#32
  let v508 : BitVec 32 := Scalar.muli v2 c16_i32_275
  let v509 : BitVec 32 := Scalar.addi c0_i32_276 v508
  let c0_i32_274 : BitVec 32 := 0#32
  let c4_i32_277 : BitVec 32 := 4#32
  let v510 : BitVec 32 := Scalar.muli c0_i32_274 c4_i32_277
  let v511 : BitVec 32 := Scalar.addi v509 v510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v512 : BitVec 32 := Scalar.muli v8 c1_i32_278
  let v513 : BitVec 32 := Scalar.addi v511 v512
  v513.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_59 : BitVec 32 := 1#32
  let v100 : BitVec 1 := Scalar.cmpi .ne v5 c1_i32_59
  let v101 : BitVec 32 := Scalar.extui v100
  let c0_i32_60 : BitVec 32 := 0#32
  let v102 : BitVec 1 := Scalar.cmpi .ne v101 c0_i32_60
  v102

def k0_off6 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off7 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_257 : BitVec 32 := 0#32
  let c0_i32_258 : BitVec 32 := 0#32
  ![v5.toNat, 0, 0]
def k0_dev8 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v480 : BitVec 32 := Scalar.muli v2 c16_i32_253
  let v481 : BitVec 32 := Scalar.addi c0_i32_254 v480
  let c1_i32_252 : BitVec 32 := 1#32
  let c4_i32_255 : BitVec 32 := 4#32
  let v482 : BitVec 32 := Scalar.muli c1_i32_252 c4_i32_255
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v484 : BitVec 32 := Scalar.muli v8 c1_i32_256
  let v485 : BitVec 32 := Scalar.addi v483 v484
  v485.toNat
def k0_off8 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_268 : BitVec 32 := 0#32
  let c0_i32_269 : BitVec 32 := 0#32
  ![v5.toNat, 0, 0]
def k0_dev9 (d0 : Dev nD) : Nat :=
  let c0_i32_265 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_264 : BitVec 32 := 16#32
  let v494 : BitVec 32 := Scalar.muli v2 c16_i32_264
  let v495 : BitVec 32 := Scalar.addi c0_i32_265 v494
  let c1_i32_263 : BitVec 32 := 1#32
  let c4_i32_266 : BitVec 32 := 4#32
  let v496 : BitVec 32 := Scalar.muli c1_i32_263 c4_i32_266
  let v497 : BitVec 32 := Scalar.addi v495 v496
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267 : BitVec 32 := 1#32
  let v498 : BitVec 32 := Scalar.muli v8 c1_i32_267
  let v499 : BitVec 32 := Scalar.addi v497 v498
  v499.toNat
def k0_dev10 (d0 : Dev nD) : Nat :=
  let c0_i32_276 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_275 : BitVec 32 := 16#32
  let v508 : BitVec 32 := Scalar.muli v2 c16_i32_275
  let v509 : BitVec 32 := Scalar.addi c0_i32_276 v508
  let c1_i32_274 : BitVec 32 := 1#32
  let c4_i32_277 : BitVec 32 := 4#32
  let v510 : BitVec 32 := Scalar.muli c1_i32_274 c4_i32_277
  let v511 : BitVec 32 := Scalar.addi v509 v510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v512 : BitVec 32 := Scalar.muli v8 c1_i32_278
  let v513 : BitVec 32 := Scalar.addi v511 v512
  v513.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_61 : BitVec 32 := 2#32
  let v103 : BitVec 1 := Scalar.cmpi .ne v5 c2_i32_61
  let v104 : BitVec 32 := Scalar.extui v103
  let c0_i32_62 : BitVec 32 := 0#32
  let v105 : BitVec 1 := Scalar.cmpi .ne v104 c0_i32_62
  v105

def k0_off9 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off10 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_257 : BitVec 32 := 0#32
  let c0_i32_258 : BitVec 32 := 0#32
  ![v5.toNat, 0, 0]
def k0_dev11 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v480 : BitVec 32 := Scalar.muli v2 c16_i32_253
  let v481 : BitVec 32 := Scalar.addi c0_i32_254 v480
  let c2_i32_252 : BitVec 32 := 2#32
  let c4_i32_255 : BitVec 32 := 4#32
  let v482 : BitVec 32 := Scalar.muli c2_i32_252 c4_i32_255
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v484 : BitVec 32 := Scalar.muli v8 c1_i32_256
  let v485 : BitVec 32 := Scalar.addi v483 v484
  v485.toNat
def k0_off11 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_268 : BitVec 32 := 0#32
  let c0_i32_269 : BitVec 32 := 0#32
  ![v5.toNat, 0, 0]
def k0_dev12 (d0 : Dev nD) : Nat :=
  let c0_i32_265 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_264 : BitVec 32 := 16#32
  let v494 : BitVec 32 := Scalar.muli v2 c16_i32_264
  let v495 : BitVec 32 := Scalar.addi c0_i32_265 v494
  let c2_i32_263 : BitVec 32 := 2#32
  let c4_i32_266 : BitVec 32 := 4#32
  let v496 : BitVec 32 := Scalar.muli c2_i32_263 c4_i32_266
  let v497 : BitVec 32 := Scalar.addi v495 v496
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267 : BitVec 32 := 1#32
  let v498 : BitVec 32 := Scalar.muli v8 c1_i32_267
  let v499 : BitVec 32 := Scalar.addi v497 v498
  v499.toNat
def k0_dev13 (d0 : Dev nD) : Nat :=
  let c0_i32_276 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_275 : BitVec 32 := 16#32
  let v508 : BitVec 32 := Scalar.muli v2 c16_i32_275
  let v509 : BitVec 32 := Scalar.addi c0_i32_276 v508
  let c2_i32_274 : BitVec 32 := 2#32
  let c4_i32_277 : BitVec 32 := 4#32
  let v510 : BitVec 32 := Scalar.muli c2_i32_274 c4_i32_277
  let v511 : BitVec 32 := Scalar.addi v509 v510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v512 : BitVec 32 := Scalar.muli v8 c1_i32_278
  let v513 : BitVec 32 := Scalar.addi v511 v512
  v513.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_63 : BitVec 32 := 3#32
  let v106 : BitVec 1 := Scalar.cmpi .ne v5 c3_i32_63
  let v107 : BitVec 32 := Scalar.extui v106
  let c0_i32_64 : BitVec 32 := 0#32
  let v108 : BitVec 1 := Scalar.cmpi .ne v107 c0_i32_64
  v108

def k0_off12 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off13 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_257 : BitVec 32 := 0#32
  let c0_i32_258 : BitVec 32 := 0#32
  ![v5.toNat, 0, 0]
def k0_dev14 (d0 : Dev nD) : Nat :=
  let c0_i32_254 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_253 : BitVec 32 := 16#32
  let v480 : BitVec 32 := Scalar.muli v2 c16_i32_253
  let v481 : BitVec 32 := Scalar.addi c0_i32_254 v480
  let c3_i32_252 : BitVec 32 := 3#32
  let c4_i32_255 : BitVec 32 := 4#32
  let v482 : BitVec 32 := Scalar.muli c3_i32_252 c4_i32_255
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v484 : BitVec 32 := Scalar.muli v8 c1_i32_256
  let v485 : BitVec 32 := Scalar.addi v483 v484
  v485.toNat
def k0_off14 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_268 : BitVec 32 := 0#32
  let c0_i32_269 : BitVec 32 := 0#32
  ![v5.toNat, 0, 0]
def k0_dev15 (d0 : Dev nD) : Nat :=
  let c0_i32_265 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_264 : BitVec 32 := 16#32
  let v494 : BitVec 32 := Scalar.muli v2 c16_i32_264
  let v495 : BitVec 32 := Scalar.addi c0_i32_265 v494
  let c3_i32_263 : BitVec 32 := 3#32
  let c4_i32_266 : BitVec 32 := 4#32
  let v496 : BitVec 32 := Scalar.muli c3_i32_263 c4_i32_266
  let v497 : BitVec 32 := Scalar.addi v495 v496
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_267 : BitVec 32 := 1#32
  let v498 : BitVec 32 := Scalar.muli v8 c1_i32_267
  let v499 : BitVec 32 := Scalar.addi v497 v498
  v499.toNat
def k0_dev16 (d0 : Dev nD) : Nat :=
  let c0_i32_276 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_275 : BitVec 32 := 16#32
  let v508 : BitVec 32 := Scalar.muli v2 c16_i32_275
  let v509 : BitVec 32 := Scalar.addi c0_i32_276 v508
  let c3_i32_274 : BitVec 32 := 3#32
  let c4_i32_277 : BitVec 32 := 4#32
  let v510 : BitVec 32 := Scalar.muli c3_i32_274 c4_i32_277
  let v511 : BitVec 32 := Scalar.addi v509 v510
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_278 : BitVec 32 := 1#32
  let v512 : BitVec 32 := Scalar.muli v8 c1_i32_278
  let v513 : BitVec 32 := Scalar.addi v511 v512
  v513.toNat
def k0_off15 (d0 : Dev nD) : Fin 2 → Nat :=
  let c0_65 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32 : BitVec 32 := 256#32
  let v109 : BitVec 32 := Scalar.muli v5 c256_i32
  let v110 : Index := Scalar.indexCast v109
  ![0, v110.toNat]
def k0_off16 (d0 : Dev nD) : Fin 2 → Nat :=
  let c0_67 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32 : BitVec 32 := 128#32
  let v116 : BitVec 32 := Scalar.muli v5 c128_i32
  let v117 : Index := Scalar.indexCast v116
  ![0, v117.toNat]
def k0_off17 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v196 : Index := Scalar.indexCast v5
  let c0_125 : Index := 0#32
  let c0_126 : Index := 0#32
  ![v196.toNat, 0, 0]
def k0_off18 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v221 : Index := Scalar.indexCast v5
  let c0_132 : Index := 0#32
  let c64 : Index := 64#32
  ![v221.toNat, 0, 64]
def k0_off19 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v246 : Index := Scalar.indexCast v5
  let c0_138 : Index := 0#32
  let c128 : Index := 128#32
  ![v246.toNat, 0, 128]
def k0_off20 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v271 : Index := Scalar.indexCast v5
  let c0_144 : Index := 0#32
  let c192 : Index := 192#32
  ![v271.toNat, 0, 192]
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_145 : BitVec 32 := 0#32
  let v275 : BitVec 1 := Scalar.cmpi .ne v5 c0_i32_145
  let v276 : BitVec 32 := Scalar.extui v275
  let c0_i32_146 : BitVec 32 := 0#32
  let v277 : BitVec 1 := Scalar.cmpi .ne v276 c0_i32_146
  v277

def k0_off21 (d0 : Dev nD) : Fin 2 → Nat :=
  let c0_i32_251 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![0, v5.toNat]
def k0_off22 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_259 : BitVec 32 := 0#32
  let c0_i32_260 : BitVec 32 := 0#32
  ![v5.toNat, 0, 0]
def k0_dev17 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v480 : BitVec 32 := Scalar.muli v2 c16_i32_255
  let v481 : BitVec 32 := Scalar.addi c0_i32_256 v480
  let c0_i32_254 : BitVec 32 := 0#32
  let c4_i32_257 : BitVec 32 := 4#32
  let v482 : BitVec 32 := Scalar.muli c0_i32_254 c4_i32_257
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v484 : BitVec 32 := Scalar.muli v8 c1_i32_258
  let v485 : BitVec 32 := Scalar.addi v483 v484
  v485.toNat
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_147 : BitVec 32 := 1#32
  let v278 : BitVec 1 := Scalar.cmpi .ne v5 c1_i32_147
  let v279 : BitVec 32 := Scalar.extui v278
  let c0_i32_148 : BitVec 32 := 0#32
  let v280 : BitVec 1 := Scalar.cmpi .ne v279 c0_i32_148
  v280

def k0_off23 (d0 : Dev nD) : Fin 2 → Nat :=
  let c0_i32_251 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![0, v5.toNat]
def k0_off24 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_259 : BitVec 32 := 0#32
  let c0_i32_260 : BitVec 32 := 0#32
  ![v5.toNat, 0, 0]
def k0_dev18 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v480 : BitVec 32 := Scalar.muli v2 c16_i32_255
  let v481 : BitVec 32 := Scalar.addi c0_i32_256 v480
  let c1_i32_254 : BitVec 32 := 1#32
  let c4_i32_257 : BitVec 32 := 4#32
  let v482 : BitVec 32 := Scalar.muli c1_i32_254 c4_i32_257
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v484 : BitVec 32 := Scalar.muli v8 c1_i32_258
  let v485 : BitVec 32 := Scalar.addi v483 v484
  v485.toNat
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_149 : BitVec 32 := 2#32
  let v281 : BitVec 1 := Scalar.cmpi .ne v5 c2_i32_149
  let v282 : BitVec 32 := Scalar.extui v281
  let c0_i32_150 : BitVec 32 := 0#32
  let v283 : BitVec 1 := Scalar.cmpi .ne v282 c0_i32_150
  v283

def k0_off25 (d0 : Dev nD) : Fin 2 → Nat :=
  let c0_i32_251 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![0, v5.toNat]
def k0_off26 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_259 : BitVec 32 := 0#32
  let c0_i32_260 : BitVec 32 := 0#32
  ![v5.toNat, 0, 0]
def k0_dev19 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v480 : BitVec 32 := Scalar.muli v2 c16_i32_255
  let v481 : BitVec 32 := Scalar.addi c0_i32_256 v480
  let c2_i32_254 : BitVec 32 := 2#32
  let c4_i32_257 : BitVec 32 := 4#32
  let v482 : BitVec 32 := Scalar.muli c2_i32_254 c4_i32_257
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v484 : BitVec 32 := Scalar.muli v8 c1_i32_258
  let v485 : BitVec 32 := Scalar.addi v483 v484
  v485.toNat
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_151 : BitVec 32 := 3#32
  let v284 : BitVec 1 := Scalar.cmpi .ne v5 c3_i32_151
  let v285 : BitVec 32 := Scalar.extui v284
  let c0_i32_152 : BitVec 32 := 0#32
  let v286 : BitVec 1 := Scalar.cmpi .ne v285 c0_i32_152
  v286

def k0_off27 (d0 : Dev nD) : Fin 2 → Nat :=
  let c0_i32_251 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![0, v5.toNat]
def k0_off28 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_259 : BitVec 32 := 0#32
  let c0_i32_260 : BitVec 32 := 0#32
  ![v5.toNat, 0, 0]
def k0_dev20 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v480 : BitVec 32 := Scalar.muli v2 c16_i32_255
  let v481 : BitVec 32 := Scalar.addi c0_i32_256 v480
  let c3_i32_254 : BitVec 32 := 3#32
  let c4_i32_257 : BitVec 32 := 4#32
  let v482 : BitVec 32 := Scalar.muli c3_i32_254 c4_i32_257
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v484 : BitVec 32 := Scalar.muli v8 c1_i32_258
  let v485 : BitVec 32 := Scalar.addi v483 v484
  v485.toNat
def k0_off29 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v309 : Index := Scalar.indexCast v5
  let c256_158 : Index := 256#32
  let c0_159 : Index := 0#32
  ![v309.toNat, 256, 0]
def k0_off30 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v334 : Index := Scalar.indexCast v5
  let c256_165 : Index := 256#32
  let c64_166 : Index := 64#32
  ![v334.toNat, 256, 64]
def k0_off31 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v359 : Index := Scalar.indexCast v5
  let c256_172 : Index := 256#32
  let c128_173 : Index := 128#32
  ![v359.toNat, 256, 128]
def k0_off32 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v384 : Index := Scalar.indexCast v5
  let c256_179 : Index := 256#32
  let c192_180 : Index := 192#32
  ![v384.toNat, 256, 192]
def k0_cond17 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_181 : BitVec 32 := 0#32
  let v388 : BitVec 1 := Scalar.cmpi .ne v5 c0_i32_181
  let v389 : BitVec 32 := Scalar.extui v388
  let c0_i32_182 : BitVec 32 := 0#32
  let v390 : BitVec 1 := Scalar.cmpi .ne v389 c0_i32_182
  v390

def k0_off33 (d0 : Dev nD) : Fin 2 → Nat :=
  let c1_i32_251 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![1, v5.toNat]
def k0_off34 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_259 : BitVec 32 := 256#32
  let c0_i32_260 : BitVec 32 := 0#32
  ![v5.toNat, 256, 0]
def k0_dev21 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v480 : BitVec 32 := Scalar.muli v2 c16_i32_255
  let v481 : BitVec 32 := Scalar.addi c0_i32_256 v480
  let c0_i32_254 : BitVec 32 := 0#32
  let c4_i32_257 : BitVec 32 := 4#32
  let v482 : BitVec 32 := Scalar.muli c0_i32_254 c4_i32_257
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v484 : BitVec 32 := Scalar.muli v8 c1_i32_258
  let v485 : BitVec 32 := Scalar.addi v483 v484
  v485.toNat
def k0_cond18 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_183 : BitVec 32 := 1#32
  let v391 : BitVec 1 := Scalar.cmpi .ne v5 c1_i32_183
  let v392 : BitVec 32 := Scalar.extui v391
  let c0_i32_184 : BitVec 32 := 0#32
  let v393 : BitVec 1 := Scalar.cmpi .ne v392 c0_i32_184
  v393

def k0_off35 (d0 : Dev nD) : Fin 2 → Nat :=
  let c1_i32_251 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![1, v5.toNat]
def k0_off36 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_259 : BitVec 32 := 256#32
  let c0_i32_260 : BitVec 32 := 0#32
  ![v5.toNat, 256, 0]
def k0_dev22 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v480 : BitVec 32 := Scalar.muli v2 c16_i32_255
  let v481 : BitVec 32 := Scalar.addi c0_i32_256 v480
  let c1_i32_254 : BitVec 32 := 1#32
  let c4_i32_257 : BitVec 32 := 4#32
  let v482 : BitVec 32 := Scalar.muli c1_i32_254 c4_i32_257
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v484 : BitVec 32 := Scalar.muli v8 c1_i32_258
  let v485 : BitVec 32 := Scalar.addi v483 v484
  v485.toNat
def k0_cond19 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_185 : BitVec 32 := 2#32
  let v394 : BitVec 1 := Scalar.cmpi .ne v5 c2_i32_185
  let v395 : BitVec 32 := Scalar.extui v394
  let c0_i32_186 : BitVec 32 := 0#32
  let v396 : BitVec 1 := Scalar.cmpi .ne v395 c0_i32_186
  v396

def k0_off37 (d0 : Dev nD) : Fin 2 → Nat :=
  let c1_i32_251 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![1, v5.toNat]
def k0_off38 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_259 : BitVec 32 := 256#32
  let c0_i32_260 : BitVec 32 := 0#32
  ![v5.toNat, 256, 0]
def k0_dev23 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v480 : BitVec 32 := Scalar.muli v2 c16_i32_255
  let v481 : BitVec 32 := Scalar.addi c0_i32_256 v480
  let c2_i32_254 : BitVec 32 := 2#32
  let c4_i32_257 : BitVec 32 := 4#32
  let v482 : BitVec 32 := Scalar.muli c2_i32_254 c4_i32_257
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v484 : BitVec 32 := Scalar.muli v8 c1_i32_258
  let v485 : BitVec 32 := Scalar.addi v483 v484
  v485.toNat
def k0_cond20 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_187 : BitVec 32 := 3#32
  let v397 : BitVec 1 := Scalar.cmpi .ne v5 c3_i32_187
  let v398 : BitVec 32 := Scalar.extui v397
  let c0_i32_188 : BitVec 32 := 0#32
  let v399 : BitVec 1 := Scalar.cmpi .ne v398 c0_i32_188
  v399

def k0_off39 (d0 : Dev nD) : Fin 2 → Nat :=
  let c1_i32_251 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![1, v5.toNat]
def k0_off40 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_259 : BitVec 32 := 256#32
  let c0_i32_260 : BitVec 32 := 0#32
  ![v5.toNat, 256, 0]
def k0_dev24 (d0 : Dev nD) : Nat :=
  let c0_i32_256 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_255 : BitVec 32 := 16#32
  let v480 : BitVec 32 := Scalar.muli v2 c16_i32_255
  let v481 : BitVec 32 := Scalar.addi c0_i32_256 v480
  let c3_i32_254 : BitVec 32 := 3#32
  let c4_i32_257 : BitVec 32 := 4#32
  let v482 : BitVec 32 := Scalar.muli c3_i32_254 c4_i32_257
  let v483 : BitVec 32 := Scalar.addi v481 v482
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v484 : BitVec 32 := Scalar.muli v8 c1_i32_258
  let v485 : BitVec 32 := Scalar.addi v483 v484
  v485.toNat
def k0_cond29 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_243 : BitVec 32 := 0#32
  let v468 : BitVec 1 := Scalar.cmpi .ne v5 c0_i32_243
  let v469 : BitVec 32 := Scalar.extui v468
  let c0_i32_244 : BitVec 32 := 0#32
  let v470 : BitVec 1 := Scalar.cmpi .ne v469 c0_i32_244
  v470

def k0_off41 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_255 : BitVec 32 := 0#32
  let c0_i32_256 : BitVec 32 := 0#32
  ![v5.toNat, 0, 0]
def k0_off42 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_284 : BitVec 32 := 0#32
  let c0_i32_285 : BitVec 32 := 0#32
  ![v5.toNat, 0, 0]
def k0_off43 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_293 : BitVec 32 := 256#32
  let c0_i32_294 : BitVec 32 := 0#32
  ![v5.toNat, 256, 0]
def k0_cond30 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_245 : BitVec 32 := 1#32
  let v471 : BitVec 1 := Scalar.cmpi .ne v5 c1_i32_245
  let v472 : BitVec 32 := Scalar.extui v471
  let c0_i32_246 : BitVec 32 := 0#32
  let v473 : BitVec 1 := Scalar.cmpi .ne v472 c0_i32_246
  v473

def k0_off44 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_255 : BitVec 32 := 0#32
  let c0_i32_256 : BitVec 32 := 0#32
  ![v5.toNat, 0, 0]
def k0_off45 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_284 : BitVec 32 := 0#32
  let c0_i32_285 : BitVec 32 := 0#32
  ![v5.toNat, 0, 0]
def k0_off46 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_293 : BitVec 32 := 256#32
  let c0_i32_294 : BitVec 32 := 0#32
  ![v5.toNat, 256, 0]
def k0_cond31 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_247 : BitVec 32 := 2#32
  let v474 : BitVec 1 := Scalar.cmpi .ne v5 c2_i32_247
  let v475 : BitVec 32 := Scalar.extui v474
  let c0_i32_248 : BitVec 32 := 0#32
  let v476 : BitVec 1 := Scalar.cmpi .ne v475 c0_i32_248
  v476

def k0_off47 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_255 : BitVec 32 := 0#32
  let c0_i32_256 : BitVec 32 := 0#32
  ![v5.toNat, 0, 0]
def k0_off48 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_284 : BitVec 32 := 0#32
  let c0_i32_285 : BitVec 32 := 0#32
  ![v5.toNat, 0, 0]
def k0_off49 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_293 : BitVec 32 := 256#32
  let c0_i32_294 : BitVec 32 := 0#32
  ![v5.toNat, 256, 0]
def k0_cond32 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_249 : BitVec 32 := 3#32
  let v477 : BitVec 1 := Scalar.cmpi .ne v5 c3_i32_249
  let v478 : BitVec 32 := Scalar.extui v477
  let c0_i32_250 : BitVec 32 := 0#32
  let v479 : BitVec 1 := Scalar.cmpi .ne v478 c0_i32_250
  v479

def k0_off50 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_255 : BitVec 32 := 0#32
  let c0_i32_256 : BitVec 32 := 0#32
  ![v5.toNat, 0, 0]
def k0_off51 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_284 : BitVec 32 := 0#32
  let c0_i32_285 : BitVec 32 := 0#32
  ![v5.toNat, 0, 0]
def k0_off52 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c256_i32_293 : BitVec 32 := 256#32
  let c0_i32_294 : BitVec 32 := 0#32
  ![v5.toNat, 256, 0]
abbrev stage0_0 : Fin 1 → Memref sig .tc .vmem S2x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 96)⁻¹ : ℝ) : EReal)
  | _ => none
-- ==== ReferenceIdeal.lean ====
abbrev S2x256x1024 : Shape := ⟨3, ![2, 256, 1024]⟩
abbrev S1024x256 : Shape := ⟨2, ![1024, 256]⟩
abbrev S256x1024 : Shape := ⟨2, ![256, 1024]⟩
abbrev S1024x1024 : Shape := ⟨2, ![1024, 1024]⟩
abbrev S1024x512 : Shape := ⟨2, ![1024, 512]⟩
abbrev S1024x32 : Shape := ⟨2, ![1024, 32]⟩
abbrev S2x256x256 : Shape := ⟨3, ![2, 256, 256]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S_ : Shape := ⟨0, ![]⟩
abbrev S2x16x256x256 : Shape := ⟨4, ![2, 16, 256, 256]⟩
abbrev S2x16x256 : Shape := ⟨3, ![2, 16, 256]⟩
abbrev S2x16x256x1 : Shape := ⟨4, ![2, 16, 256, 1]⟩
abbrev S2x16x64x256 : Shape := ⟨4, ![2, 16, 64, 256]⟩
abbrev S512x1024 : Shape := ⟨2, ![512, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024x256, .f32⟩
  | .hbm, ⟨2, _⟩ => ⟨S256x1024, .f32⟩
  | .hbm, ⟨3, _⟩ => ⟨S256x1024, .f32⟩
  | .hbm, ⟨4, _⟩ => ⟨S1024x1024, .f32⟩
  | .hbm, ⟨5, _⟩ => ⟨S1024x512, .f32⟩
  | .hbm, ⟨6, _⟩ => ⟨S1024x32, .f32⟩
  | .hbm, ⟨7, _⟩ => ⟨S1024x1024, .f32⟩
  | .hbm, ⟨8, _⟩ => ⟨S2x256x256, .f32⟩
  | .hbm, ⟨9, _⟩ => ⟨S2x256x1024, .f32⟩
  | .hbm, ⟨10, _⟩ => ⟨S2x256x16x64, .f32⟩
  | .hbm, ⟨11, _⟩ => ⟨S2x256x1024, .f32⟩
  | .hbm, ⟨12, _⟩ => ⟨S2x256x16x64, .f32⟩
  | .hbm, ⟨13, _⟩ => ⟨S2x256x1024, .f32⟩
  | .hbm, ⟨14, _⟩ => ⟨S2x256x16x64, .f32⟩
  | .hbm, ⟨15, _⟩ => ⟨S2x256x512, .f32⟩
  | .hbm, ⟨16, _⟩ => ⟨S2x256x16x32, .f32⟩
  | .hbm, ⟨17, _⟩ => ⟨S2x256x32, .f32⟩
  | .hbm, ⟨18, _⟩ => ⟨S2x256x1x32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x16x256x256, .f32⟩
  | .hbm, ⟨24, _⟩ => ⟨S2x256x16x32, .f32⟩
  | .hbm, ⟨25, _⟩ => ⟨S2x16x256x256, .f32⟩
  | .hbm, ⟨26, _⟩ => ⟨S2x16x256x256, .f32⟩
  | .hbm, ⟨27, _⟩ => ⟨S2x16x256x256, .f32⟩
  | .hbm, ⟨28, _⟩ => ⟨S2x16x256x256, .f32⟩
  | .hbm, ⟨29, _⟩ => ⟨S_, .f32⟩
  | .hbm, ⟨30, _⟩ => ⟨S2x16x256, .f32⟩
  | .hbm, ⟨31, _⟩ => ⟨S2x16x256x1, .f32⟩
  | .hbm, ⟨32, _⟩ => ⟨S2x16x256x256, .f32⟩
  | .hbm, ⟨33, _⟩ => ⟨S2x16x256x256, .f32⟩
  | .hbm, ⟨34, _⟩ => ⟨S2x16x256x256, .f32⟩
  | .hbm, ⟨35, _⟩ => ⟨S_, .f32⟩
  | .hbm, ⟨36, _⟩ => ⟨S2x16x256, .f32⟩
  | .hbm, ⟨37, _⟩ => ⟨S2x16x256x1, .f32⟩
  | .hbm, ⟨38, _⟩ => ⟨S2x16x256x256, .f32⟩
  | .hbm, ⟨39, _⟩ => ⟨S2x16x256x256, .f32⟩
  | .hbm, ⟨40, _⟩ => ⟨S2x16x64x256, .f32⟩
  | .hbm, ⟨41, _⟩ => ⟨S2x256x16x64, .f32⟩
  | .hbm, ⟨42, _⟩ => ⟨S2x256x1024, .f32⟩
  | .hbm, ⟨43, _⟩ => ⟨S2x256x1024, .f32⟩
  | .hbm, ⟨44, _⟩ => ⟨S512x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.Cells.lean ====
/-
The mesh, the semaphore cells, the slots of the exchanged buffers and what they hold, for the kernel's exchange along the
mesh axis "y". Everything here is over any float values `F`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ShareLeaves
public import Idealize.ShloMosaic.Lib.ValueIdxCoords
public import Idealize.ShloMosaic.Lib.Tactic

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Devices -/

set_option backward.proofsInPublic true in
/-- A device's coordinate on the mesh axis "y". -/
def yc (c : Dev nD) : Fin 4 := ⟨c.val / 4 % 4, Nat.mod_lt _ (by decide)⟩

set_option backward.proofsInPublic true in
/-- The device at coordinate `p` on the axis "y", at `c`'s other coordinates. -/
def pr (c : Dev nD) (p : Fin 4) : Dev nD :=
  ⟨16 * (c.val / 16) + 4 * p.val + c.val % 4, by have h1 : c.val < 32 := c.isLt; have h2 := p.isLt; show _ < 32; omega⟩

theorem yc_pr (c : Dev nD) (p : Fin 4) : yc (pr c p) = p := by
  apply Fin.ext; have h2 := p.isLt; show (16 * (c.val / 16) + 4 * p.val + c.val % 4) / 4 % 4 = p.val; omega

theorem pr_pr (c : Dev nD) (p q : Fin 4) : pr (pr c p) q = pr c q := by
  apply Fin.ext; have h2 := p.isLt
  show 16 * ((16 * (c.val / 16) + 4 * p.val + c.val % 4) / 16) + 4 * q.val + (16 * (c.val / 16) + 4 * p.val + c.val % 4) % 4
    = 16 * (c.val / 16) + 4 * q.val + c.val % 4
  omega

theorem pr_yc (c : Dev nD) : pr c (yc c) = c := by
  apply Fin.ext; show 16 * (c.val / 16) + 4 * (c.val / 4 % 4) + c.val % 4 = c.val; omega

theorem pr_back (c : Dev nD) (p : Fin 4) : pr (pr c p) (yc c) = c := by rw [pr_pr, pr_yc]

/-- The pairs (device, peer coordinate) seen from the other end. -/
def swapE : Dev nD × Fin 4 ≃ Dev nD × Fin 4 where
  toFun x := (pr x.1 x.2, yc x.1)
  invFun x := (pr x.1 x.2, yc x.1)
  left_inv x := by show (pr (pr x.1 x.2) (yc x.1), yc (pr x.1 x.2)) = x; rw [pr_back, yc_pr]
  right_inv x := by show (pr (pr x.1 x.2) (yc x.1), yc (pr x.1 x.2)) = x; rw [pr_back, yc_pr]

/-! ## Semaphore cells -/

/-- The barrier semaphore. -/
abbrev barS : Sem sig := (SemArray.scalar (sig.barrier 0 rfl) : Sems sig S_).sem

/-- The five exchanges: the compressed activations, the key block, the value block, and the two halves of the output. -/
abbrev Chan : Type := Fin 5

def sOff : Chan → ℕ := ![0, 8, 16, 24, 28]
def rOff : Chan → ℕ := ![4, 12, 20, 32, 36]
theorem sOff_le (k : Chan) : sOff k ≤ 36 := by revert k; decide
theorem rOff_le (k : Chan) : rOff k ≤ 36 := by revert k; decide

set_option backward.proofsInPublic true in
/-- The DMA semaphore of exchange `k` with peer `p`: the sending side (`false`) or the receiving side (`true`). -/
def xs (b : Bool) (k : Chan) (p : Fin 4) : DmaSem sig :=
  ⟨9 + (bif b then rOff k else sOff k) + p.val, by
    have h1 := sOff_le k; have h2 := rOff_le k; have h3 := p.isLt; show _ < 49; cases b <;> simp only [cond_true, cond_false] <;> omega⟩

/-- Which side, exchange and peer a DMA semaphore is of, if it is one of the exchange's. -/
def dec (q : DmaSem sig) : Option (Bool × Chan × Fin 4) :=
  if q.val < 9 then none
  else some (![(false, 0), (true, 0), (false, 1), (true, 1), (false, 2), (true, 2), (false, 3), (false, 4), (true, 3), (true, 4)]
      (Fin.ofNat 10 ((q.val - 9) / 4)) |>.1,
    ![(false, 0), (true, 0), (false, 1), (true, 1), (false, 2), (true, 2), (false, 3), (false, 4), (true, 3), (true, 4)]
      (Fin.ofNat 10 ((q.val - 9) / 4)) |>.2, Fin.ofNat 4 ((q.val - 9) % 4))

theorem dec_xs (b : Bool) (k : Chan) (p : Fin 4) : dec (xs b k p) = some (b, k, p) := by revert b k p; decide +kernel

abbrev barC (c : Dev nD) : GSem nD τ sig := ((c : Thread nD τ), .reg barS)
abbrev xC (c : Dev nD) (b : Bool) (k : Chan) (p : Fin 4) : GSem nD τ sig := ((c : Thread nD τ), .dma (xs b k p))

set_option backward.proofsInPublic true in
/-- The exchange's cells of one device, numbered: the barrier's, then the DMA semaphores from number 9 on. -/
def osem (i : Fin 40) : SemLoc sig := .dma ⟨9 + i.val, by have := i.isLt; show _ < 49; omega⟩
def csem : Fin 41 → SemLoc sig := Fin.cases (.reg barS) osem
abbrev kcell (ck : Dev nD × Fin 41) : GSem nD τ sig := ((ck.1 : Thread nD τ), csem ck.2)

set_option backward.proofsInPublic true in
def cix (b : Bool) (k : Chan) (p : Fin 4) : Fin 41 :=
  ⟨1 + ((bif b then rOff k else sOff k) + p.val), by
    have h1 := sOff_le k; have h2 := rOff_le k; have h3 := p.isLt; cases b <;> simp only [cond_true, cond_false] <;> omega⟩
theorem csem_cix (b : Bool) (k : Chan) (p : Fin 4) : csem (cix b k p) = .dma (xs b k p) := by revert b k p; decide +kernel
theorem csem_zero : csem 0 = .reg barS := rfl

/-! The semaphores as the program slices them. -/

section Sems
variable {off : Fin 1 → ℕ} {off2 : Fin 2 → ℕ}

theorem sem_cs (p : Fin 4) (h : off = ![p.val]) (inb : ∀ a, off a + S1.size a ≤ S4.size a) :
    ((cc0_scratch6.slice (Rect.unit (s := S4) off S1.size inb)).squeeze S_ squeezes_S1_S_).sem = xs false 0 p := by
  subst h; revert p; decide +kernel

theorem sem_cr (p : Fin 4) (h : off = ![p.val]) (inb : ∀ a, off a + S1.size a ≤ S4.size a) :
    ((cc0_scratch7.slice (Rect.unit (s := S4) off S1.size inb)).squeeze S_ squeezes_S1_S_).sem = xs true 0 p := by
  subst h; revert p; decide +kernel

theorem sem_ks (p : Fin 4) (h : off = ![p.val]) (inb : ∀ a, off a + S1.size a ≤ S4.size a) :
    ((cc0_scratch8.slice (Rect.unit (s := S4) off S1.size inb)).squeeze S_ squeezes_S1_S_).sem = xs false 1 p := by
  subst h; revert p; decide +kernel

theorem sem_kr (p : Fin 4) (h : off = ![p.val]) (inb : ∀ a, off a + S1.size a ≤ S4.size a) :
    ((cc0_scratch9.slice (Rect.unit (s := S4) off S1.size inb)).squeeze S_ squeezes_S1_S_).sem = xs true 1 p := by
  subst h; revert p; decide +kernel

theorem sem_vs (p : Fin 4) (h : off = ![p.val]) (inb : ∀ a, off a + S1.size a ≤ S4.size a) :
    ((cc0_scratch10.slice (Rect.unit (s := S4) off S1.size inb)).squeeze S_ squeezes_S1_S_).sem = xs false 2 p := by
  subst h; revert p; decide +kernel

theorem sem_vr (p : Fin 4) (h : off = ![p.val]) (inb : ∀ a, off a + S1.size a ≤ S4.size a) :
    ((cc0_scratch11.slice (Rect.unit (s := S4) off S1.size inb)).squeeze S_ squeezes_S1_S_).sem = xs true 2 p := by
  subst h; revert p; decide +kernel

theorem sem_os0 (p : Fin 4) (h : off2 = ![0, p.val]) (inb : ∀ a, off2 a + S1x1.size a ≤ S2x4.size a) :
    ((cc0_scratch12.slice (Rect.unit (s := S2x4) off2 S1x1.size inb)).squeeze S_ squeezes_S1x1_S_).sem = xs false 3 p := by
  subst h; revert p; decide +kernel

theorem sem_os1 (p : Fin 4) (h : off2 = ![1, p.val]) (inb : ∀ a, off2 a + S1x1.size a ≤ S2x4.size a) :
    ((cc0_scratch12.slice (Rect.unit (s := S2x4) off2 S1x1.size inb)).squeeze S_ squeezes_S1x1_S_).sem = xs false 4 p := by
  subst h; revert p; decide +kernel

theorem sem_or0 (p : Fin 4) (h : off2 = ![0, p.val]) (inb : ∀ a, off2 a + S1x1.size a ≤ S2x4.size a) :
    ((cc0_scratch13.slice (Rect.unit (s := S2x4) off2 S1x1.size inb)).squeeze S_ squeezes_S1x1_S_).sem = xs true 3 p := by
  subst h; revert p; decide +kernel

theorem sem_or1 (p : Fin 4) (h : off2 = ![1, p.val]) (inb : ∀ a, off2 a + S1x1.size a ≤ S2x4.size a) :
    ((cc0_scratch13.slice (Rect.unit (s := S2x4) off2 S1x1.size inb)).squeeze S_ squeezes_S1x1_S_).sem = xs true 4 p := by
  subst h; revert p; decide +kernel

end Sems

end Cert.Mla
end
-- ==== Proof.Slots.lean ====
/-
The slots of the exchanged buffers as rectangles, loads and stores at a rectangle, and separating conjunctions over the
four coordinates of the axis, of which one is the device's own. Everything here is over any float values `F`.
-/
module

public import proofs.«01_k».proof.Proof.Cells

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

/-- The ghost state: the staging pipeline's rounds beside the exchange's, whose duties are named by coordinates. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Conjunctions over the four coordinates -/

section Own
variable {M : Type} [URA M]

theorem sep_none (P : sProp M) : iprop(P ∗ emp) = P := equiv_iff.mp BI.sep_emp
theorem none_sep (P : sProp M) : iprop(emp ∗ P) = P := equiv_iff.mp BI.emp_sep

/-- `X` at a peer's coordinate, nothing at the device's own. -/
def on (c : Dev nD) (p : Fin 4) (X : sProp M) : sProp M := if p = yc c then iprop(emp) else X

theorem on_self {c : Dev nD} {p : Fin 4} (h : p = yc c) (X : sProp M) : on c p X = iprop(emp) := if_pos h
theorem on_peer {c : Dev nD} {p : Fin 4} (h : p ≠ yc c) (X : sProp M) : on c p X = X := if_neg h
theorem on_sep (c : Dev nD) (p : Fin 4) (X Y : sProp M) : on c p iprop(X ∗ Y) = iprop(on c p X ∗ on c p Y) := by
  by_cases h : p = yc c
  · rw [on_self h, on_self h, on_self h, sep_none]
  · simp only [on_peer h, on_peer h, on_peer h]
theorem on_mono {c : Dev nD} {p : Fin 4} {X Y : sProp M} (h : X ⊢ Y) : on c p X ⊢ on c p Y := by
  by_cases hp : p = yc c
  · rw [on_self hp, on_self hp]
  · rw [on_peer hp, on_peer hp]; exact h
theorem on_of (c : Dev nD) (p : Fin 4) {X : sProp M} {Y : sProp M} (h : p ≠ yc c → X = Y) : on c p X = on c p Y := by
  by_cases hp : p = yc c
  · rw [on_self hp, on_self hp]
  · rw [on_peer hp, on_peer hp, h hp]

theorem bigSep_4 (Φ : Fin 4 → sProp M) : bigSep Finset.univ Φ = iprop(Φ 0 ∗ Φ 1 ∗ Φ 2 ∗ Φ 3) :=
  bigSep_univ_eq_bigSepL [0, 1, 2, 3] (by decide) (by decide) Φ
theorem bigSep_5 (Φ : Fin 5 → sProp M) : bigSep Finset.univ Φ = iprop(Φ 0 ∗ Φ 1 ∗ Φ 2 ∗ Φ 3 ∗ Φ 4) :=
  bigSep_univ_eq_bigSepL [0, 1, 2, 3, 4] (by decide) (by decide) Φ

/-- A family over the coordinates is its own member and the peers'. -/
theorem own_split (c : Dev nD) (X : Fin 4 → sProp M) :
    bigSep Finset.univ X = iprop(X (yc c) ∗ bigSep Finset.univ fun p => on c p (X p)) := by
  rw [bigSep_univ_at X (yc c), bigSep_univ_at (fun p => on c p (X p)) (yc c), on_self rfl]
  have e : bigSep (Finset.univ.erase (yc c)) (fun p => on c p (X p)) = bigSep (Finset.univ.erase (yc c)) X :=
    bigSep_congr fun p hp => on_peer (Finset.ne_of_mem_erase hp) _
  rw [e, none_sep]

theorem own_split4 (c : Dev nD) (X : Fin 4 → sProp M) :
    iprop(X 0 ∗ X 1 ∗ X 2 ∗ X 3) = iprop(X (yc c) ∗ on c 0 (X 0) ∗ on c 1 (X 1) ∗ on c 2 (X 2) ∗ on c 3 (X 3)) := by
  rw [← bigSep_4, own_split c, bigSep_4]

end Own

/-! ## Rectangles -/

/-- Slot `p` of a buffer of four slots. -/
abbrev slotR (A B : ℕ) (p : Fin 4) : Rect (⟨3, ![4, A, B]⟩ : Shape) :=
  Rect.unit (s := ⟨3, ![4, A, B]⟩) ![p.val, 0, 0] ![1, A, B] (by
    have := p.isLt
    intro a; fin_cases a
    · show p.val + 1 ≤ 4; omega
    · show 0 + A ≤ A; omega
    · show 0 + B ≤ B; omega)

/-- Half `b` of slot `p` of the output buffer: 256 rows. -/
abbrev halfR (p : Fin 4) (b : Fin 2) : Rect S4x512x256 :=
  Rect.unit (s := S4x512x256) ![p.val, 256 * b.val, 0] S1x256x256.size (by
    have := p.isLt; have := b.isLt
    intro a; fin_cases a
    · show p.val + 1 ≤ 4; omega
    · show 256 * b.val + 256 ≤ 512; omega
    · show 0 + 256 ≤ 256; omega)

/-- The 64 columns of head `h` in half `b` of slot `p` of the output buffer. -/
abbrev headR (p : Fin 4) (b : Fin 2) (h : Fin 4) : Rect S4x512x256 :=
  Rect.unit (s := S4x512x256) ![p.val, 256 * b.val, 64 * h.val] S1x256x64.size (by
    have := p.isLt; have := b.isLt; have := h.isLt
    intro a; fin_cases a
    · show p.val + 1 ≤ 4; omega
    · show 256 * b.val + 256 ≤ 512; omega
    · show 64 * h.val + 64 ≤ 256; omega)

/-- Half `b` of the result: 256 rows. -/
abbrev outR (b : Fin 2) : Rect S512x1024 :=
  Rect.unit (s := S512x1024) ![256 * b.val, 0] S256x1024.size (by
    have := b.isLt
    intro a; fin_cases a
    · show 256 * b.val + 256 ≤ 512; omega
    · show 0 + 1024 ≤ 1024; omega)

/-- Columns `256 q` to `256 q + 255` of a matrix of `A` rows. -/
abbrev colR (A : ℕ) (q : Fin 4) : Rect (⟨2, ![A, 1024]⟩ : Shape) :=
  Rect.unit (s := ⟨2, ![A, 1024]⟩) ![0, 256 * q.val] ![A, 256] (by
    have := q.isLt
    intro a; fin_cases a
    · show 0 + A ≤ A; omega
    · show 256 * q.val + 256 ≤ 1024; omega)

/-- Columns `128 q` to `128 q + 127`. -/
abbrev colR' (q : Fin 4) : Rect S1024x512 :=
  Rect.unit (s := S1024x512) ![0, 128 * q.val] S1024x128.size (by
    have := q.isLt
    intro a; fin_cases a
    · show 0 + 1024 ≤ 1024; omega
    · show 128 * q.val + 128 ≤ 512; omega)

/-- What a load at the rectangle `r` reads of contents `f`. -/
def rd {s : Shape} {α : Type} (r : Rect s) (f : s.Idx → α) : r.shape.Idx → α := fun x => f (r.emb x)

/-- Four slots stacked into one buffer. -/
def stk {A B : ℕ} {α : Type} (s : Fin 4 → (⟨3, ![1, A, B]⟩ : Shape).Idx → α) : (⟨3, ![4, A, B]⟩ : Shape).Idx → α :=
  fun i => s (i 0) (ix3 (0 : Fin 1) (i 1) (i 2))

theorem stk_emb {A B : ℕ} {α : Type} (s : Fin 4 → (⟨3, ![1, A, B]⟩ : Shape).Idx → α) (p : Fin 4) (x : (slotR A B p).shape.Idx) :
    stk s ((slotR A B p).emb x) = s p x := by
  have h0 : (slotR A B p).emb x 0 = p := Fin.ext (by
    have := (show (⟨3, ![1, A, B]⟩ : Shape).Idx from x) 0 |>.isLt
    have h : (x 0).val < 1 := this
    show p.val + 1 * (x 0).val = p.val; omega)
  have h1 : ix3 (0 : Fin 1) ((slotR A B p).emb x 1) ((slotR A B p).emb x 2) = x := by
    funext a; apply Fin.ext; fin_cases a
    · have h : (x 0).val < 1 := (x 0).isLt
      show 0 = (x 0).val; omega
    · show 0 + 1 * (x 1).val = (x 1).val; omega
    · show 0 + 1 * (x 2).val = (x 2).val; omega
  exact (congrArg (s ((slotR A B p).emb x 0)) h1).trans (congrFun (congrArg s h0) x)

theorem rd_stk {A B : ℕ} {α : Type} (s : Fin 4 → (⟨3, ![1, A, B]⟩ : Shape).Idx → α) (p : Fin 4) : rd (slotR A B p) (stk s) = s p :=
  funext fun x => stk_emb s p x

/-! The rectangles of one family are disjoint and cover. -/

theorem slot_disjoint (A B : ℕ) (p q : Fin 4) (h : p ≠ q) : Disjoint (slotR A B p).set (slotR A B q).set :=
  Rect.unit_disjoint (0 : Fin 3) (by
    have : p.val ≠ q.val := fun e => h (Fin.ext e)
    show p.val + 1 ≤ q.val ∨ q.val + 1 ≤ p.val; omega)
theorem slot_cover (A B : ℕ) : Finset.univ.biUnion (fun p => (slotR A B p).set) = Finset.univ := by
  ext i; simp only [Finset.mem_biUnion, Finset.mem_univ, true_and, iff_true]
  refine ⟨i 0, Rect.mem_set_unit.mpr fun a => ?_⟩
  have h1 : (i 1).val < A := (i 1).isLt
  have h2 : (i 2).val < B := (i 2).isLt
  fin_cases a
  · show (i 0).val ≤ (i 0).val ∧ (i 0).val < (i 0).val + 1; omega
  · show 0 ≤ (i 1).val ∧ (i 1).val < 0 + A; omega
  · show 0 ≤ (i 2).val ∧ (i 2).val < 0 + B; omega

theorem half_disjoint (p : Fin 4) (a b : Fin 2) (h : a ≠ b) : Disjoint (halfR p a).set (halfR p b).set :=
  Rect.unit_disjoint (1 : Fin 3) (by
    have : a.val ≠ b.val := fun e => h (Fin.ext e)
    show 256 * a.val + 256 ≤ 256 * b.val ∨ 256 * b.val + 256 ≤ 256 * a.val; omega)
theorem half_cover (p : Fin 4) : Finset.univ.biUnion (fun b => (halfR p b).set) = (slotR 512 256 p).set := by
  ext i; simp only [Finset.mem_biUnion, Finset.mem_univ, true_and]
  have h1 : (i 1).val < 512 := (i 1).isLt
  have h2 : (i 2).val < 256 := (i 2).isLt
  constructor
  · rintro ⟨b, hb⟩
    have h := Rect.mem_set_unit.mp hb
    refine Rect.mem_set_unit.mpr fun a => ?_
    fin_cases a
    · exact h 0
    · show 0 ≤ (i 1).val ∧ (i 1).val < 0 + 512; omega
    · show 0 ≤ (i 2).val ∧ (i 2).val < 0 + 256; omega
  · intro hi
    have h := Rect.mem_set_unit.mp hi
    refine ⟨⟨(i 1).val / 256, by omega⟩, Rect.mem_set_unit.mpr fun a => ?_⟩
    fin_cases a
    · exact h 0
    · show 256 * ((i 1).val / 256) ≤ (i 1).val ∧ (i 1).val < 256 * ((i 1).val / 256) + 256; omega
    · show 0 ≤ (i 2).val ∧ (i 2).val < 0 + 256; omega

theorem head_disjoint (p : Fin 4) (b : Fin 2) (h k : Fin 4) (hk : h ≠ k) : Disjoint (headR p b h).set (headR p b k).set :=
  Rect.unit_disjoint (2 : Fin 3) (by
    have : h.val ≠ k.val := fun e => hk (Fin.ext e)
    show 64 * h.val + 64 ≤ 64 * k.val ∨ 64 * k.val + 64 ≤ 64 * h.val; omega)
theorem head_cover (p : Fin 4) (b : Fin 2) : Finset.univ.biUnion (fun h => (headR p b h).set) = (halfR p b).set := by
  ext i; simp only [Finset.mem_biUnion, Finset.mem_univ, true_and]
  have h2 : (i 2).val < 256 := (i 2).isLt
  constructor
  · rintro ⟨k, hb⟩
    have h := Rect.mem_set_unit.mp hb
    refine Rect.mem_set_unit.mpr fun a => ?_
    fin_cases a
    · exact h 0
    · exact h 1
    · show 0 ≤ (i 2).val ∧ (i 2).val < 0 + 256; omega
  · intro hi
    have h := Rect.mem_set_unit.mp hi
    refine ⟨⟨(i 2).val / 64, by omega⟩, Rect.mem_set_unit.mpr fun a => ?_⟩
    fin_cases a
    · exact h 0
    · exact h 1
    · show 64 * ((i 2).val / 64) ≤ (i 2).val ∧ (i 2).val < 64 * ((i 2).val / 64) + 64; omega

theorem out_disjoint (a b : Fin 2) (h : a ≠ b) : Disjoint (outR a).set (outR b).set :=
  Rect.unit_disjoint (0 : Fin 2) (by
    have : a.val ≠ b.val := fun e => h (Fin.ext e)
    show 256 * a.val + 256 ≤ 256 * b.val ∨ 256 * b.val + 256 ≤ 256 * a.val; omega)
theorem out_cover : Finset.univ.biUnion (fun b => (outR b).set) = Finset.univ := by
  ext i; simp only [Finset.mem_biUnion, Finset.mem_univ, true_and, iff_true]
  have h0 : (i 0).val < 512 := (i 0).isLt
  have h1 : (i 1).val < 1024 := (i 1).isLt
  refine ⟨⟨(i 0).val / 256, by omega⟩, Rect.mem_set_unit.mpr fun a => ?_⟩
  fin_cases a
  · show 256 * ((i 0).val / 256) ≤ (i 0).val ∧ (i 0).val < 256 * ((i 0).val / 256) + 256; omega
  · show 0 ≤ (i 1).val ∧ (i 1).val < 0 + 1024; omega

/-! ## Elements held, split and joined -/

/-- The elements `S` of device `c`'s buffer `b`, held at contents `f`. -/
abbrev pts (c : Dev nD) (b : Ref sig .tc) (S : Finset b.ty.Idx) (q : PosShare TreeShare) (f : b.ty.Contents (Elt F)) : sProp 𝕄 :=
  ((c : Thread nD τ).loc b) ↦[S]{q} f

/-- The quarter of the full share lent to peer `p`. -/
def lf (p : Fin 4) : PosShare TreeShare := ShareLeaves.leaf 2 fullShare p

omit [FloatOps F] in
theorem pts_leaves (c : Dev nD) (b : Ref sig .tc) (S : Finset b.ty.Idx) (f : b.ty.Contents (Elt F)) :
    pts c b S fullShare f = bigSep Finset.univ fun p : Fin 4 => pts c b S (lf p) f :=
  by
  have h := ShareLeaves.pointsTo_leaves (Val := Elt F) (Ix := Unit) (Name := ℕ) (U := UU) (Lvl := ℕ) (ℓ := (c : Thread nD τ).loc b) S f 2 fullShare
  exact h

omit [FloatOps F] in
theorem pts_congr {c : Dev nD} {b : Ref sig .tc} {S : Finset b.ty.Idx} {q : PosShare TreeShare} {f g : b.ty.Contents (Elt F)}
    (h : ∀ i ∈ S, f i = g i) : pts c b S q f = pts c b S q g := pointsTo_congr h

/-! ## Loads, stores and transfers at a rectangle -/

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Rules
variable (c : Dev nD) {α : Type}

/-- A buffer of the core's vector memory. -/
abbrev vb (n : Fin (sig.nNear .tc (.core .vmem))) (hn : sig.names .tc (.core .vmem) n = true) : Ref sig .tc := ⟨.core .vmem, n, hn⟩

theorem wp_load_at {n hn} {off off' size : Fin (vb n hn).ty.shape.rank → ℕ} (h : off = off')
    {inb : ∀ a, off a + size a ≤ (vb n hn).ty.shape.size a} (inb' : ∀ a, off' a + size a ≤ (vb n hn).ty.shape.size a)
    {hl : (Memref.whole (vb n hn)).view.LoadsAt (Rect.unit off size inb).toLoadRect}
    {k : ((⟨(vb n hn).ty.shape.rank, size⟩ : Shape).Idx → Elt F (vb n hn).ty.elt) → Prog (TpuEff nD τ sig (Elt F) Λ₀ .tc) α}
    {q : PosShare TreeShare} {f : (vb n hn).ty.Contents (Elt F)} {Q : α → sProp 𝕄} :
    pts c (vb n hn) (Rect.unit off' size inb').set q f
      ⊢ iprop((pts c (vb n hn) (Rect.unit off' size inb').set q f -∗ WP c (k (rd (Rect.unit off' size inb') f)) Q)
        -∗ WP c (.op (.load (Memref.whole (vb n hn)) (Rect.unit off size inb).toLoadRect hl) k) Q) := by
  subst h
  exact wp_load 𝒱₀ (c : Thread nD τ) none Set.univ (m := Memref.whole (vb n hn))
    (show (Rect.unit off size inb).set.map (Function.Embedding.refl _) ⊆ _ by rw [Finset.map_refl])

theorem wp_load_all {n hn} {off : Fin (vb n hn).ty.shape.rank → ℕ} (h : off = fun _ => 0)
    {inb : ∀ a, off a + (vb n hn).ty.shape.size a ≤ (vb n hn).ty.shape.size a}
    {hl : (Memref.whole (vb n hn)).view.LoadsAt (Rect.unit off (vb n hn).ty.shape.size inb).toLoadRect}
    {k : ((vb n hn).ty.shape.Idx → Elt F (vb n hn).ty.elt) → Prog (TpuEff nD τ sig (Elt F) Λ₀ .tc) α}
    {q : PosShare TreeShare} {f : (vb n hn).ty.Contents (Elt F)} {Q : α → sProp 𝕄} :
    pts c (vb n hn) Finset.univ q f
      ⊢ iprop((pts c (vb n hn) Finset.univ q f -∗ WP c (k f) Q)
        -∗ WP c (.op (.load (Memref.whole (vb n hn)) (Rect.unit off (vb n hn).ty.shape.size inb).toLoadRect hl) k) Q) := by
  have e : (Memref.whole (vb n hn)).view.readAt (Elt F) (Rect.unit off (vb n hn).ty.shape.size inb).toLoadRect f = f :=
    Memref.readAt_unit_zero (Elt F) (vb n hn) h inb f
  rw [← congrArg k e]
  exact wp_load 𝒱₀ (c : Thread nD τ) none Set.univ (m := Memref.whole (vb n hn)) (Finset.subset_univ _)

/-- A load inside a buffer held whole. -/
theorem wp_load_in {n hn} {off off' size : Fin (vb n hn).ty.shape.rank → ℕ} (h : off = off')
    {inb : ∀ a, off a + size a ≤ (vb n hn).ty.shape.size a} (inb' : ∀ a, off' a + size a ≤ (vb n hn).ty.shape.size a)
    {hl : (Memref.whole (vb n hn)).view.LoadsAt (Rect.unit off size inb).toLoadRect}
    {k : ((⟨(vb n hn).ty.shape.rank, size⟩ : Shape).Idx → Elt F (vb n hn).ty.elt) → Prog (TpuEff nD τ sig (Elt F) Λ₀ .tc) α}
    {q : PosShare TreeShare} {f : (vb n hn).ty.Contents (Elt F)} {Q : α → sProp 𝕄} :
    pts c (vb n hn) Finset.univ q f
      ⊢ iprop((pts c (vb n hn) Finset.univ q f -∗ WP c (k (rd (Rect.unit off' size inb') f)) Q)
        -∗ WP c (.op (.load (Memref.whole (vb n hn)) (Rect.unit off size inb).toLoadRect hl) k) Q) := by
  subst h
  exact wp_load 𝒱₀ (c : Thread nD τ) none Set.univ (m := Memref.whole (vb n hn)) (Finset.subset_univ _)

omit [FloatOps F] in
/-- Where a write through a view lands, the buffer holds any `g` that agrees with the payload there. -/
theorem write_on {s : Shape} {e : EltTy} {sp : Space} (v : View sig .tc sp s e) (f g : v.ty.Contents (Elt F)) (w : s.Idx → Elt F e)
    (h : ∀ x, g (v.emb x) = _root_.cast (congrArg (Elt F) v.elt_eq.symm) (w x)) :
    ∀ i ∈ v.set, v.write (Elt F) f w Finset.univ i = g i := by
  intro i hi
  obtain ⟨x, -, rfl⟩ := Finset.mem_map.mp hi
  rw [View.write_emb_of_mem f w (Finset.mem_univ x), h x]

theorem wp_store_at {n hn} {off off' size : Fin (vb n hn).ty.shape.rank → ℕ} (h : off = off')
    {inb : ∀ a, off a + size a ≤ (vb n hn).ty.shape.size a} (inb' : ∀ a, off' a + size a ≤ (vb n hn).ty.shape.size a)
    {w : (⟨(vb n hn).ty.shape.rank, size⟩ : Shape).Idx → Elt F (vb n hn).ty.elt}
    {hx : ((Memref.whole (vb n hn)).access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {f : (vb n hn).ty.Contents (Elt F)} (g : (vb n hn).ty.Contents (Elt F)) {Q : α → sProp 𝕄}
    (hg : rd (Rect.unit off' size inb') g = w) :
    pts c (vb n hn) (Rect.unit off' size inb').set fullShare f
      ⊢ iprop((pts c (vb n hn) (Rect.unit off' size inb').set fullShare g -∗ WP c (k ⟨⟩) Q)
        -∗ WP c (.op (.store (Memref.whole (vb n hn)) (Rect.unit off size inb) w Finset.univ hx hm) k) Q) := by
  subst h
  have e : pts c (vb n hn) (Rect.unit off size inb).set fullShare (((Memref.whole (vb n hn)).access (Rect.unit off size inb)).write (Elt F) f w Finset.univ)
      = pts c (vb n hn) (Rect.unit off size inb).set fullShare g := by
    refine pts_congr fun i hi => write_on ((Memref.whole (vb n hn)).access (Rect.unit off size inb)) f g w (fun x => congrFun hg x) i ?_
    show i ∈ ((View.whole (vb n hn)).slice (Rect.unit off size inb)).set
    rw [View.set_slice_whole]; exact hi
  rw [← e]
  refine wp_store 𝒱₀ (c : Thread nD τ) none Set.univ (m := Memref.whole (vb n hn)) (r := Rect.unit off size inb) (Mk := Finset.univ) ?_
  rw [View.setOn_univ]
  show ((View.whole (vb n hn)).slice (Rect.unit off size inb)).set ⊆ _
  rw [View.set_slice_whole]

end Rules

end Cert.Mla
end
-- ==== Proof.Schedule.lean ====
/-
What the kernel computes on each device, and the exchange's schedule: which transfers each semaphore cell counts, what each
hands over, what each device owes at launch, the levels of the waits.
-/
module

public import proofs.«01_k».proof.Proof.Slots

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

/-! ## Contents -/

/-- One device's blocks of the arguments. -/
structure Ins (F : FTy → Type) where
  x : Vec F S2x256x1024 .f32
  wdkv : Vec F S1024x64 .f32
  wuk : Vec F S64x1024 .f32
  wuv : Vec F S64x1024 .f32
  wq : Vec F S1024x1024 .f32
  wqr : Vec F S1024x512 .f32
  wkr : Vec F S1024x32 .f32
  wo : Vec F S1024x1024 .f32

section Contents
variable (I : Dev nD → Ins F) (c : Dev nD)

/-- The compressed activations' columns of device `c`. -/
def cS : Vec F S1x512x64 .bf16 := k0_pay3 (k0_pay2 (I c).x (I c).wdkv)
/-- Columns `256 q …` of device `c`'s rows of the key matrix, and of the value matrix. -/
def wkS (q : Fin 4) : Vec F S1x64x256 .bf16 := k0_pay4 (rd (colR 64 q) (I c).wuk)
def wvS (q : Fin 4) : Vec F S1x64x256 .bf16 := k0_pay5 (rd (colR 64 q) (I c).wuv)

def CB : Vec F S4x512x64 .bf16 := stk fun p => cS I (pr c p)
def WKS : Vec F S4x64x256 .bf16 := stk fun q => wkS I c q
def WVS : Vec F S4x64x256 .bf16 := stk fun q => wvS I c q
def WK : Vec F S4x64x256 .bf16 := stk fun p => wkS I (pr c p) (yc c)
def WV : Vec F S4x64x256 .bf16 := stk fun p => wvS I (pr c p) (yc c)

/-- The queries, the rotary queries and the rotary key of device `c`'s heads. -/
def qv : FVec F S512x256 .bf16 := k0_pay16 (k0_pay1 (I c).x) (rd (colR 1024 (yc c)) (I c).wq)
def qr : FVec F S512x128 .bf16 := k0_pay17 (k0_pay1 (I c).x) (rd (colR' (yc c)) (I c).wqr)
def kr : FVec F S512x32 .bf16 := k0_pay18 (k0_pay1 (I c).x) (I c).wkr
/-- All compressed activations; the keys and the values of device `c`'s heads. -/
def cf : FVec F S512x256 .bf16 := k0_pay20 (cS I (pr c 0)) (cS I (pr c 1)) (cS I (pr c 2)) (cS I (pr c 3))
def kf : FVec F S512x256 .bf16 :=
  k0_pay23 (cf I c) (k0_pay21 (wkS I (pr c 0) (yc c))) (k0_pay22 (wkS I (pr c 1) (yc c))) (wkS I (pr c 2) (yc c)) (wkS I (pr c 3) (yc c))
def vf : FVec F S512x256 .bf16 :=
  k0_pay24 (cf I c) (wvS I (pr c 0) (yc c)) (wvS I (pr c 1) (yc c)) (wvS I (pr c 2) (yc c)) (wvS I (pr c 3) (yc c))

/-- The attention of head `h` of device `c` on half `b` of the rows. -/
def od (b : Fin 2) (h : Fin 4) : Vec F S1x256x64 .bf16 :=
  ![![k0_pay28 (k0_pay26 (cf I c) (wvS I (pr c 0) (yc c)) (wvS I (pr c 1) (yc c)) (wvS I (pr c 2) (yc c)) (wvS I (pr c 3) (yc c)))
        (k0_pay27 (qv I c) (qr I c) (kr I c) (cf I c) (k0_pay21 (wkS I (pr c 0) (yc c))) (k0_pay22 (wkS I (pr c 1) (yc c)))
          (wkS I (pr c 2) (yc c)) (wkS I (pr c 3) (yc c))),
      k0_pay29 (qv I c) (qr I c) (kf I c) (vf I c) (k0_pay25 (kr I c)),
      k0_pay32 (k0_pay30 (vf I c)) (k0_pay31 (qv I c) (qr I c) (kf I c) (k0_pay25 (kr I c))),
      k0_pay33 (qv I c) (qr I c) (kf I c) (vf I c) (k0_pay25 (kr I c))],
    ![k0_pay35 (qv I c) (qr I c) (kr I c) (kf I c) (vf I c),
      k0_pay39 (k0_pay36 (vf I c)) (k0_pay37 (qv I c) (qr I c) (kr I c) (kf I c)) (k0_pay38 (qv I c) (qr I c) (kr I c) (kf I c)),
      k0_pay40 (qv I c) (qr I c) (kf I c) (vf I c) (k0_pay34 (kr I c)),
      k0_pay44 (k0_pay41 (vf I c)) (k0_pay42 (qv I c) (qr I c)) (k0_pay43 (kf I c) (k0_pay34 (kr I c))) (constant S256x256 .f32 0x00000000#32)]] b h

/-- Device `c`'s slot of the output buffer: two halves of four heads. -/
def osl : Vec F (⟨3, ![1, 512, 256]⟩ : Shape) .bf16 := fun i =>
  od I c ⟨(i 1).val / 256, by have h : (i 1).val < 512 := (i 1).isLt; omega⟩ ⟨(i 2).val / 64, by have h : (i 2).val < 256 := (i 2).isLt; omega⟩
    (ix3 (0 : Fin 1) (⟨(i 1).val % 256, Nat.mod_lt _ (by decide)⟩ : Fin 256) (⟨(i 2).val % 64, Nat.mod_lt _ (by decide)⟩ : Fin 64))
def OB : Vec F S4x512x256 .bf16 := stk fun p => osl I (pr c p)

/-- The two halves of the result, and the result. -/
def outH (b : Fin 2) : FVec F S256x1024 .f32 :=
  ![k0_pay45 (k0_pay19 (I c).wo) (rd (halfR 0 0) (OB I c)) (rd (halfR 1 0) (OB I c)) (rd (halfR 2 0) (OB I c)) (rd (halfR 3 0) (OB I c)),
    k0_pay46 (k0_pay19 (I c).wo) (rd (halfR 0 1) (OB I c)) (rd (halfR 1 1) (OB I c)) (rd (halfR 2 1) (OB I c)) (rd (halfR 3 1) (OB I c))] b
def outAt : Vec F S512x1024 .f32 := fun i =>
  outH I c ⟨(i 0).val / 256, by have h : (i 0).val < 512 := (i 0).isLt; omega⟩
    (ix2 (⟨(i 0).val % 256, Nat.mod_lt _ (by decide)⟩ : Fin 256) (i 1))

theorem CB_pr (p : Fin 4) : CB I (pr c p) = CB I c := by unfold CB; simp only [pr_pr]
theorem OB_pr (p : Fin 4) : OB I (pr c p) = OB I c := by unfold OB; simp only [pr_pr]

theorem rd_head (b : Fin 2) (h : Fin 4) : rd (headR (yc c) b h) (OB I c) = od I c b h := by
  funext x
  have x0 : (x 0).val < 1 := (x 0).isLt
  have x1 : (x 1).val < 256 := (x 1).isLt
  have x2 : (x 2).val < 64 := (x 2).isLt
  have hb := b.isLt
  have hh := h.isLt
  have e0 : (headR (yc c) b h).emb x 0 = yc c := Fin.ext (by show (yc c).val + 1 * (x 0).val = (yc c).val; omega)
  have e1 : ((headR (yc c) b h).emb x 1).val = 256 * b.val + (x 1).val := by show 256 * b.val + 1 * (x 1).val = _; omega
  have e2 : ((headR (yc c) b h).emb x 2).val = 64 * h.val + (x 2).val := by show 64 * h.val + 1 * (x 2).val = _; omega
  show osl I (pr c ((headR (yc c) b h).emb x 0)) _ = _
  refine (congrFun (congrArg (fun p => osl I (pr c p)) e0) _).trans ?_
  show osl I (pr c (yc c)) _ = _
  rw [pr_yc]
  have hB : (⟨((headR (yc c) b h).emb x 1).val / 256, by rw [e1]; omega⟩ : Fin 2) = b := Fin.ext (by show _ / 256 = _; rw [e1]; omega)
  have hH : (⟨((headR (yc c) b h).emb x 2).val / 64, by rw [e2]; omega⟩ : Fin 4) = h := Fin.ext (by show _ / 64 = _; rw [e2]; omega)
  have hX : ix3 (0 : Fin 1) (⟨((headR (yc c) b h).emb x 1).val % 256, Nat.mod_lt _ (by decide)⟩ : Fin 256)
      (⟨((headR (yc c) b h).emb x 2).val % 64, Nat.mod_lt _ (by decide)⟩ : Fin 64) = x := by
    funext a; apply Fin.ext; fin_cases a
    · show 0 = (x 0).val; omega
    · show ((headR (yc c) b h).emb x 1).val % 256 = (x 1).val; rw [e1]; omega
    · show ((headR (yc c) b h).emb x 2).val % 64 = (x 2).val; rw [e2]; omega
  exact (congrFun (congrFun (congrArg (od I c) hB) _) _).trans ((congrFun (congrArg (od I c b) hH) _).trans (congrArg (od I c b h) hX))

theorem rd_out (b : Fin 2) : rd (outR b) (outAt I c) = outH I c b := by
  funext x
  have x0 : (x 0).val < 256 := (x 0).isLt
  have hb := b.isLt
  have e0 : ((outR b).emb x 0).val = 256 * b.val + (x 0).val := by show 256 * b.val + 1 * (x 0).val = _; omega
  have hB : (⟨((outR b).emb x 0).val / 256, by rw [e0]; omega⟩ : Fin 2) = b := Fin.ext (by show _ / 256 = _; rw [e0]; omega)
  have hX : ix2 (⟨((outR b).emb x 0).val % 256, Nat.mod_lt _ (by decide)⟩ : Fin 256) ((outR b).emb x 1) = x := by
    funext a; apply Fin.ext; fin_cases a
    · show ((outR b).emb x 0).val % 256 = (x 0).val; rw [e0]; omega
    · show 0 + 1 * (x 1).val = (x 1).val; omega
  exact (congrFun (congrArg (outH I c) hB) _).trans (congrArg (outH I c b) hX)

end Contents

/-! ## The schedule -/

/-- The units one transfer of exchange `k` counts. -/
def N (k : Chan) : ℕ :=
  ![RefSig.tileCredit S512x64 .bf16, RefSig.tileCredit S64x256 .bf16, RefSig.tileCredit S64x256 .bf16,
    RefSig.tileCredit S256x256 .bf16, RefSig.tileCredit S256x256 .bf16] k
theorem N_pos (k : Chan) : 0 < N k := by
  have h1 : 0 < RefSig.tileCredit S512x64 .bf16 := RefSig.tileCredit_pos _ _ (by decide)
  have h2 : 0 < RefSig.tileCredit S64x256 .bf16 := RefSig.tileCredit_pos _ _ (by decide)
  have h3 : 0 < RefSig.tileCredit S256x256 .bf16 := RefSig.tileCredit_pos _ _ (by decide)
  fin_cases k
  · exact h1
  · exact h2
  · exact h2
  · exact h3
  · exact h3

/-- Slot `s` of the buffer of exchange `k` on device `d`, at any contents: where a transfer lands. -/
def land (k : Chan) (d : Dev nD) (s : Fin 4) : sProp 𝕄 :=
  ![iprop(∃ f, pts d cc0_scratch0 (slotR 512 64 s).set fullShare f),
    iprop(∃ f, pts d cc0_scratch3 (slotR 64 256 s).set fullShare f),
    iprop(∃ f, pts d cc0_scratch4 (slotR 64 256 s).set fullShare f),
    iprop(∃ f, pts d cc0_scratch5 (halfR s 0).set fullShare f),
    iprop(∃ f, pts d cc0_scratch5 (halfR s 1).set fullShare f)] k

section Pay
variable (I : Dev nD → Ins F)

/-- What device `c` lends to its transfer of exchange `k` to peer `p`. -/
def sent (k : Chan) (c : Dev nD) (p : Fin 4) : sProp 𝕄 :=
  ![pts c cc0_scratch0 (slotR 512 64 (yc c)).set (lf p) (CB I c),
    pts c cc0_scratch1 (slotR 64 256 p).set fullShare (WKS I c),
    pts c cc0_scratch2 (slotR 64 256 p).set fullShare (WVS I c),
    pts c cc0_scratch5 (halfR (yc c) 0).set (lf p) (OB I c),
    pts c cc0_scratch5 (halfR (yc c) 1).set (lf p) (OB I c)] k

/-- What device `c` has from peer `p` when exchange `k` has landed. -/
def recvd (k : Chan) (c : Dev nD) (p : Fin 4) : sProp 𝕄 :=
  ![pts c cc0_scratch0 (slotR 512 64 p).set fullShare (CB I c),
    pts c cc0_scratch3 (slotR 64 256 p).set fullShare (WK I c),
    pts c cc0_scratch4 (slotR 64 256 p).set fullShare (WV I c),
    pts c cc0_scratch5 (halfR p 0).set fullShare (OB I c),
    pts c cc0_scratch5 (halfR p 1).set fullShare (OB I c)] k

/-- With its signal, peer `d` hands device `c` its slot in every landing buffer of `d`. -/
def barPay (c : Dev nD) (d : Fin 4) : sProp 𝕄 := bigSep Finset.univ fun k : Chan => land k (pr c d) (yc c)

def xPay (b : Bool) (k : Chan) (c : Dev nD) (p : Fin 4) : sProp 𝕄 := bif b then recvd I k c p else sent I k c p

omit [FloatOps F] in
instance pts_storable (c : Dev nD) (b : Ref sig .tc) (S : Finset b.ty.Idx) (q : PosShare TreeShare) (f : b.ty.Contents (Elt F)) :
    BI.Storable (upEmb : UEmb _ 𝕄) (pts c b S q f) := by unfold pts; infer_instance
omit [FloatOps F] in
instance land_storable (k : Chan) (d : Dev nD) (s : Fin 4) : BI.Storable (upEmb : UEmb _ 𝕄) (land (F := F) k d s) := by
  fin_cases k <;> (unfold land; dsimp; infer_instance)
instance sent_storable (k : Chan) (c : Dev nD) (p : Fin 4) : BI.Storable (upEmb : UEmb _ 𝕄) (sent I k c p) := by
  fin_cases k <;> (unfold sent; dsimp; infer_instance)
instance recvd_storable (k : Chan) (c : Dev nD) (p : Fin 4) : BI.Storable (upEmb : UEmb _ 𝕄) (recvd I k c p) := by
  fin_cases k <;> (unfold recvd; dsimp; infer_instance)
omit [FloatOps F] in
instance barPay_storable (c : Dev nD) (d : Fin 4) : BI.Storable (upEmb : UEmb _ 𝕄) (barPay (F := F) c d) := by
  unfold barPay; infer_instance

/-- The transfers (or signals) a semaphore of device `c` counts, by peer. -/
def dut (c : Dev nD) : SemLoc sig → Finset (Fin 4)
  | .reg _ => Finset.univ.erase (yc c)
  | .dma q => match dec q with
    | some (_, _, p) => if p = yc c then ∅ else {0}
    | none => ∅
def amt : SemLoc sig → ℕ
  | .reg _ => 1
  | .dma q => match dec q with
    | some (_, k, _) => N k
    | none => 1
def pay (c : Dev nD) (sm : SemLoc sig) (d : Fin 4) : sProp 𝕄 :=
  match sm with
  | .reg _ => barPay c d
  | .dma q => match dec q with
    | some (b, k, p) => xPay I b k c p
    | none => iprop(emp)

def Rd : Rounds.Schedule (GSem nD τ sig) (Fin 4) 𝕄 where
  duties g r := if r = 0 ∧ g.1.2 = .tc then dut g.1.1 g.2 else ∅
  unitless _ := False
  amount g _ _ := amt g.2
  payload g _ d := pay I g.1.1 g.2 d
  amount_pos g _ _ _ := by
    show 0 < amt g.2
    unfold amt
    split
    · exact Nat.one_pos
    · split
      · exact N_pos _
      · exact Nat.one_pos

instance Rd_storable (g : GSem nD τ sig) (r : ℕ) (d : Fin 4) : BI.Storable (upEmb : UEmb _ 𝕄) ((Rd I).payload g r d) := by
  show BI.Storable upEmb (pay I g.1.1 g.2 d)
  unfold pay xPay
  split
  · infer_instance
  · split
    · rename_i b _ _ _; cases b
      · show BI.Storable upEmb (sent I _ _ _); infer_instance
      · show BI.Storable upEmb (recvd I _ _ _); infer_instance
    · infer_instance

section Sched
variable (c : Dev nD) (b : Bool) (k : Chan) (p : Fin 4)

theorem duties_bar : (Rd I).duties (barC c) 0 = Finset.univ.erase (yc c) := by
  dsimp only [Rd]; exact if_pos ⟨rfl, rfl⟩
theorem duties_x : (Rd I).duties (xC c b k p) 0 = if p = yc c then ∅ else {0} := by
  dsimp only [Rd]; refine (if_pos ⟨rfl, rfl⟩).trans ?_
  unfold dut; simp only [dec_xs]
theorem duties_later (g : GSem nD τ sig) (r : ℕ) (h : 1 ≤ r) : (Rd I).duties g r = ∅ := by
  dsimp only [Rd]; exact if_neg fun e => by omega
theorem amount_bar (d : Fin 4) : (Rd I).amount (barC c) 0 d = 1 := rfl
theorem amount_x (d : Fin 4) : (Rd I).amount (xC c b k p) 0 d = N k := by
  show amt (.dma (xs b k p)) = _; unfold amt; simp only [dec_xs]
theorem payload_bar (d : Fin 4) : (Rd I).payload (barC c) 0 d = barPay c d := rfl
theorem payload_x (d : Fin 4) : (Rd I).payload (xC c b k p) 0 d = xPay I b k c p := by
  show pay I c (.dma (xs b k p)) d = _; unfold pay; simp only [dec_xs]
theorem expect_bar : (Rd I).expect (barC c) 0 = 3 := by
  unfold Schedule.expect Schedule.amountOf
  rw [duties_bar, Finset.sum_congr rfl fun d _ => amount_bar I c d, Finset.sum_const, Finset.card_erase_of_mem (Finset.mem_univ _),
    Finset.card_univ, Fintype.card_fin, smul_eq_mul]
theorem expect_x (h : p ≠ yc c) : (Rd I).expect (xC c b k p) 0 = N k := by
  unfold Schedule.expect Schedule.amountOf; rw [duties_x, if_neg h, Finset.sum_singleton, amount_x]
theorem rest_x (h : p ≠ yc c) :
    bigSep ((Rd I).duties (xC c b k p) 0 \ ∅) (fun d => (Rd I).payload (xC c b k p) 0 d) = xPay I b k c p := by
  rw [Finset.sdiff_empty, duties_x, if_neg h, bigSep_singleton, payload_x]
theorem rest_bar :
    bigSep ((Rd I).duties (barC c) 0 \ ∅) (fun d => (Rd I).payload (barC c) 0 d)
      = iprop(on c 0 (barPay c 0) ∗ on c 1 (barPay c 1) ∗ on c 2 (barPay c 2) ∗ on c 3 (barPay c 3)) := by
  rw [Finset.sdiff_empty, duties_bar, ← bigSep_4 fun d => on c d (barPay (F := F) c d), bigSep_univ_at _ (yc c), on_self rfl, none_sep]
  exact bigSep_congr fun d hd => (on_peer (Finset.ne_of_mem_erase hd) _).symm
/-- With no transfer to count, the cell is done from the start. -/
theorem duties_own (h : p = yc c) (r : ℕ) : (Rd I).duties (xC c b k p) r = ∅ := by
  rcases Nat.eq_zero_or_pos r with rfl | hr
  · rw [duties_x, if_pos h]
  · exact duties_later I _ r hr

end Sched
end Pay

/-! ## What each device owes; the levels -/

/-- A signal to a peer (`none`), or a transfer of an exchange to a peer. -/
abbrev Ev : Type := Option Chan × Fin 4
def evC (c : Dev nD) : Ev → GSem nD τ sig
  | (none, p) => barC (pr c p)
  | (some k, p) => xC (pr c p) true k (yc c)
def evN : Ev → ℕ
  | (none, _) => 1
  | (some k, _) => N k
def one (c : Dev nD) (e : Ev) : CellTallies nD τ sig Unit := if e.2 = yc c then 0 else tallyAt (evC c e) () (evN e)
/-- What device `c` owes while the events `l` are to come, the first of them at the head. -/
def tot (c : Dev nD) : List Ev → CellTallies nD τ sig Unit
  | [] => 0
  | e :: l => tot c l + one c e

/-- The events in program order: the signals; the first three exchanges, peer by peer; the two halves of the output. -/
abbrev evO1 : List Ev := [(some 4, 0), (some 4, 1), (some 4, 2), (some 4, 3)]
abbrev evO : List Ev := (some 3, 0) :: (some 3, 1) :: (some 3, 2) :: (some 3, 3) :: evO1
abbrev ev3 (p : Fin 4) (l : List Ev) : List Ev := (some 0, p) :: (some 1, p) :: (some 2, p) :: l
abbrev evX : List Ev := ev3 0 (ev3 1 (ev3 2 (ev3 3 evO)))
abbrev evAll : List Ev := (none, 0) :: (none, 1) :: (none, 2) :: (none, 3) :: evX

def L (g : GSem nD τ sig) : Finset Unit := if g.1.2 = .tc then {()} else ∅
def lvl : SemLoc sig → ℕ
  | .reg _ => 1
  | .dma q => match dec q with
    | some (true, k, _) => if k.val < 3 then 2 else 3
    | _ => 0
def lv (g : GSem nD τ sig) (_ : Unit) : ℕ := lvl g.2
def evLv : Ev → ℕ
  | (none, _) => 1
  | (some k, _) => if k.val < 3 then 2 else 3

theorem lvl_x (b : Bool) (k : Chan) (p : Fin 4) : lvl (.dma (xs b k p)) = if b then (if k.val < 3 then 2 else 3) else 0 := by
  unfold lvl; simp only [dec_xs]; cases b <;> rfl
theorem lv_ev (c : Dev nD) (e : Ev) (u : Unit) : lv (evC c e) u = evLv e := by
  rcases e with ⟨_ | k, p⟩
  · rfl
  · exact (lvl_x true k (yc c)).trans rfl

theorem L_of_ne (g : GSem nD τ sig) (h : g.1.2 ≠ .tc) : L g = ∅ := if_neg h
theorem L_tc (c : Dev nD) (sm : SemLoc sig) : L ((c : Thread nD τ), sm) = {()} := if_pos rfl

theorem one_pos {c : Dev nD} {e : Ev} {g : GSem nD τ sig} {u : Unit} (h : 0 < one c e g u) : g = evC c e := by
  unfold one at h
  split at h
  · exact absurd h (Nat.lt_irrefl 0)
  · rw [tallyAt_apply] at h
    by_contra hn
    rw [if_neg fun e => hn e.1] at h
    exact Nat.lt_irrefl 0 h

theorem tot_pos {c : Dev nD} {l : List Ev} {g : GSem nD τ sig} {u : Unit} (h : 0 < tot c l g u) : ∃ e ∈ l, g = evC c e := by
  induction l with
  | nil => exact absurd h (Nat.lt_irrefl 0)
  | cons e l ih =>
    unfold tot at h
    rw [Pi.add_apply, Finsupp.add_apply] at h
    rcases Nat.eq_zero_or_pos (one c e g u) with h0 | h1
    · rw [h0] at h
      obtain ⟨e', he', hg⟩ := ih h
      exact ⟨e', List.mem_cons_of_mem _ he', hg⟩
    · exact ⟨e, List.mem_cons_self, one_pos h1⟩

theorem L_ev (c : Dev nD) (e : Ev) (u : Unit) : u ∈ L (evC c e) := by
  rcases e with ⟨_ | k, p⟩ <;> exact Finset.mem_singleton_self _

omit [FloatOps F] in
/-- A wait at a level below every event still owed is allowed. -/
theorem mayWait (c : Dev nD) (sm : SemLoc sig) (l : List Ev) (h : ∀ e ∈ l, lvl sm < evLv e) :
    (levAts L lv : sProp 𝕄) ⊢ MayWait (c : Thread nD τ) sm () (tot c l) :=
  MayOwe.of_cut (L := L) (lev := lv) (lvl sm) (fun p hp => by rw [Finset.mem_singleton.mp hp, L_tc]; exact Finset.mem_singleton_self _)
    (fun g u hg => by obtain ⟨e, he, rfl⟩ := tot_pos hg; exact L_ev c e u)
    (fun p hp => by rw [Finset.mem_singleton.mp hp]; exact le_refl _)
    (fun g u hg => by obtain ⟨e, he, rfl⟩ := tot_pos hg; rw [lv_ev]; exact h e he)

end Cert.Mla
end
-- ==== Proof.Steps.lean ====
/-
One signal, one transfer, one wait, over the exchange's schedule, for any exchange and any peer; and the guard around them,
which leaves the device's own coordinate out.
-/
module

public import proofs.«01_k».proof.Proof.Schedule

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (I : Dev nD → Ins F) (K : Dev nD × Fin 41 → ℕ)

/-! ## What every device knows -/

/-- Every cell's invariant, every cell's round 0 reached, and the levels. -/
def recs : sProp 𝕄 :=
  iprop((bigSep Finset.univ fun ck : Dev nD × Fin 41 => cellInv ER (Rd I) (K ck) (kcell ck))
    ∗ (bigSep Finset.univ fun ck : Dev nD × Fin 41 => reached ER (kcell ck) 0) ∗ levAts L lv)

instance recs_persistent : BI.Persistent (recs I K) := by unfold recs; infer_instance

theorem recs_inv (ck : Dev nD × Fin 41) : recs I K ⊢ cellInv ER (Rd I) (K ck) (kcell ck) := by
  have h : (bigSep Finset.univ fun ck : Dev nD × Fin 41 => (cellInv ER (Rd I) (K ck) (kcell ck) : sProp 𝕄)) ⊢ cellInv ER (Rd I) (K ck) (kcell ck) :=
    bigSep_elim (Finset.mem_univ ck)
  unfold recs; iintro ⟨H, -, -⟩
  iapply h; iexact H
theorem recs_reached (ck : Dev nD × Fin 41) : recs I K ⊢ reached ER (kcell ck) 0 := by
  have h : (bigSep Finset.univ fun ck : Dev nD × Fin 41 => (reached ER (kcell ck) 0 : sProp 𝕄)) ⊢ reached ER (kcell ck) 0 :=
    bigSep_elim (Finset.mem_univ ck)
  unfold recs; iintro ⟨-, H, -⟩
  iapply h; iexact H
theorem recs_lev : recs I K ⊢ levAts L lv := by unfold recs; iintro ⟨-, -, H⟩; iexact H

set_option maxRecDepth 20000 in
theorem recs_may (c : Dev nD) (sm : SemLoc sig) (l : List Ev) (h : ∀ e ∈ l, lvl sm < evLv e) :
    recs I K ⊢ MayWait (c : Thread nD τ) sm () (tot c l) := by
  have h1 := recs_lev I K
  have h2 := mayWait (F := F) c sm l h
  exact h1.trans h2

theorem kcell_x (c : Dev nD) (b : Bool) (k : Chan) (p : Fin 4) : kcell (c, cix b k p) = xC c b k p := by
  show ((c : Thread nD τ), csem (cix b k p)) = _; rw [csem_cix]

theorem inv_b (c : Dev nD) : recs I K ⊢ cellInv ER (Rd I) (K (c, 0)) (barC c) := recs_inv I K (c, 0)
theorem inv_x (c : Dev nD) (b : Bool) (k : Chan) (p : Fin 4) : recs I K ⊢ cellInv ER (Rd I) (K (c, cix b k p)) (xC c b k p) := by
  have h := recs_inv I K (c, cix b k p); rw [kcell_x] at h; exact h
theorem rch_b (c : Dev nD) : recs I K ⊢ reached ER (barC c) 0 := recs_reached I K (c, 0)
theorem rch_x (c : Dev nD) (b : Bool) (k : Chan) (p : Fin 4) : recs I K ⊢ reached ER (xC c b k p) 0 := by
  have h := recs_reached I K (c, cix b k p); rw [kcell_x] at h; exact h

/-- What device `c` owes, whatever it has waited for so far. -/
abbrev ow (c : Dev nD) (O : CellTallies nD τ sig Unit) : sProp 𝕄 := iprop(∃ W, owes (c : Thread nD τ) O W)

theorem one_peer {c : Dev nD} {p : Fin 4} (k : Option Chan) (h : p ≠ yc c) : one c (k, p) = tallyAt (evC c (k, p)) () (evN (k, p)) := if_neg h
theorem tot_own {c : Dev nD} {p : Fin 4} (k : Option Chan) (h : p = yc c) (l : List Ev) : tot c ((k, p) :: l) = tot c l := by
  show tot c l + one c (k, p) = tot c l
  rw [show one c (k, p) = 0 from if_pos h, add_zero]

section Steps
variable (c : Dev nD) {α : Type} {Q : α → sProp 𝕄}

/-! ## The guard -/

/-- A step taken at every peer and skipped at the device's own coordinate. -/
theorem guard_step {p : Fin 4} {P : Prop} [Decidable P] (hP : P ↔ p ≠ yc c) {R pre post : sProp 𝕄} {T : P → Prog (TpuEff nD τ sig (Elt F) Λ₀ .tc) α}
    {k : Prog (TpuEff nD τ sig (Elt F) Λ₀ .tc) α} {Q : α → sProp 𝕄}
    (hpeer : ∀ h : P, p ≠ yc c → iprop(R ∗ pre) ⊢ iprop((post -∗ WP c k Q) -∗ WP c (T h) Q))
    (hown : p = yc c → pre ⊢ post) :
    iprop(R ∗ pre) ⊢ iprop((post -∗ WP c k Q) -∗ WP c (if h : P then T h else k) Q) := by
  by_cases h : P
  · rw [dif_pos h]; exact hpeer h (hP.mp h)
  · rw [dif_neg h]
    have hp : p = yc c := by by_contra hn; exact h (hP.mpr hn)
    iintro ⟨-, Hp⟩ Hk
    iapply Hk
    iapply (hown hp); iexact Hp

/-! ## A signal -/

theorem signal_at {p : Fin 4} (hp : p ≠ yc c) (l : List Ev) (n : Dev nD) (hn : n = pr c p) (a : ℕ) (ha : a = 1)
    {k : PUnit → Prog (TpuEff nD τ sig (Elt F) Λ₀ .tc) α} {Q : α → sProp 𝕄} :
    iprop(recs I K ∗ ow c (tot c ((none, p) :: l)) ∗ dutyTok ER (barC (pr c p)) 0 (yc c) ∗ bigSep Finset.univ fun k => land k c p)
      ⊢ iprop((ow c (tot c l) -∗ WP c (k ⟨⟩) Q)
          -∗ WP c (.op (.semSignal ((n : Dev nD), Proc.tc) barS a) k) Q) := by
  subst hn ha
  iintro ⟨#HR, ⟨%W, HO⟩, Htok, Hl⟩ Hk
  have hpay : (bigSep Finset.univ fun k : Chan => (land (F := F) k c p)) = (Rd I).payload (barC (pr c p)) 0 (yc c) := by
    rw [payload_bar]; unfold barPay; rw [pr_back, yc_pr]
  iapply (Rounds.wp_signal 𝒱₀ ER (Rd I) (c : Thread nD τ) none (dst := (pr c p : Thread nD τ)) (κ := K (pr c p, 0)) (r := 0)
      (d := yc c) (by rw [duties_bar, yc_pr]; exact Finset.mem_erase.mpr ⟨fun e => hp e.symm, Finset.mem_univ _⟩) (amount_bar I (pr c p) (yc c)) ()
      (tot c l) (by show tot c l + one c (none, p) = _; rw [one_peer none hp]; rfl) (W := W)) $$ [HO Htok Hl]
  · isplitr; · iapply (inv_b I K (pr c p)); iexact HR
    isplitl [HO]; · iexact HO
    isplitl [Htok]; · iexact Htok
    isplitl [Hl]; · iapply (Entails.of_eq hpay); iexact Hl
    iapply (rch_b I K (pr c p)); iexact HR
  iintro HO
  iapply Hk
  iexists W; iexact HO

theorem signal_step {p : Fin 4} {P : Prop} [Decidable P] (hP : P ↔ p ≠ yc c) (l : List Ev) (dv : P → Dev nD) (hdv : ∀ h, dv h = pr c p) (a : ℕ) (ha : a = 1)
    {k : Prog (TpuEff nD τ sig (Elt F) Λ₀ .tc) α} {Q : α → sProp 𝕄} :
    iprop(recs I K ∗ ow c (tot c ((none, p) :: l)) ∗ on c p (iprop(dutyTok ER (barC (pr c p)) 0 (yc c) ∗ bigSep Finset.univ fun k => land k c p)))
      ⊢ iprop((ow c (tot c l) -∗ WP c k Q)
          -∗ WP c (if h : P then .op (.semSignal ((dv h : Dev nD), Proc.tc) barS a) (fun _ => k) else k) Q) := by
  refine guard_step c hP (fun h hp => ?_) fun hp => ?_
  · rw [on_peer hp]; exact signal_at I K c hp l (dv h) (hdv h) a ha (k := fun _ => k)
  · rw [on_self hp, sep_none, tot_own none hp]

/-! ## A transfer -/

theorem send_at {p : Fin 4} (hp : p ≠ yc c) (k : Chan) (l : List Ev) {n : Dev nD} (hn : n = pr c p)
    {cs cs' : Space} {s : Shape} {e : EltTy} {src : Memref sig .tc cs s e} {dst : Memref sig .tc cs' s e}
    {sS sR : DmaSem sig} (hS : sS = xs false k p) (hR : sR = xs true k (yc c)) (hN : dst.view.dmaCredit = N k)
    {hsc : (dst : Memref sig (Dev.tc n : Thread nD τ).2.kind cs' s e).view.ref.isScScratch = false}
    {hsrc : src.view.WordExact} {hdst : dst.view.WordExact}
    {hsem : DmaTarget.Typed cs (.dma sR) (.remote (Dev.tc n : Thread nD τ) dst (.dma sS) hsc)}
    {q : PosShare TreeShare} {fs : Buf (Elt F) (src.view.loc (c : Thread nD τ))}
    (h1 : sent I k c p = (src.view.loc (c : Thread nD τ) ↦[src.view.set]{q} fs))
    (h2 : land (F := F) k (pr c p) (yc c) = iprop(∃ fd, dst.view.loc (pr c p : Thread nD τ) ↦[dst.view.set]{fullShare} fd))
    (h3 : ∀ fd, (dst.view.loc (pr c p : Thread nD τ) ↦[dst.view.set]{fullShare} dst.view.write (Elt F) fd (src.view.read (Elt F) fs) Finset.univ)
      = recvd I k (pr c p) (yc c))
    {kk : PUnit → Prog (TpuEff nD τ sig (Elt F) Λ₀ .tc) α} {Q : α → sProp 𝕄} :
    iprop(recs I K ∗ ow c (tot c ((some k, p) :: l)) ∗ dutyTok ER (xC c false k p) 0 0 ∗ dutyTok ER (xC (pr c p) true k (yc c)) 0 0
        ∗ land k (pr c p) (yc c) ∗ sent I k c p)
      ⊢ iprop((iprop(ow c (tot c l) ∗ cred (tallyAt (xC c false k p) () (N k))) -∗ WP c (kk ⟨⟩) Q)
          -∗ WP c (.op (.enqueueDma src (.remote (Dev.tc n : Thread nD τ) dst (.dma sS) hsc) (.dma sR) hsrc hdst hsem) kk) Q) := by
  subst hn hS hR
  rw [h1, h2]
  iintro ⟨#HR, ⟨%W, HO⟩, Ht1, Ht2, ⟨%fd, Hd⟩, Hs⟩ Hk
  iapply (Rounds.wp_send_pointsTo 𝒱₀ ER (Rd I) (c : Thread nD τ) none (κ₁ := K (c, cix false k p)) (κ₂ := K (pr c p, cix true k (yc c)))
    (r₁ := 0) (r₂ := 0) (d₁ := 0) (d₂ := 0) (fd := fd) (q := q) (fs := fs)
    (by rw [duties_x, if_neg hp]; exact Finset.mem_singleton_self _)
    (by rw [duties_x, if_neg (by rw [yc_pr]; exact fun e => hp e.symm)]; exact Finset.mem_singleton_self _)
    () () (N k) (show dst.view.amount (.dma (xs true k (yc c))) = N k from hN) (amount_x I c false k p 0) (amount_x I (pr c p) true k (yc c) 0) (tot c l)
    (by show tot c l + one c (some k, p) = _; rw [one_peer (some k) hp]; rfl) (W := W)
    (by rw [payload_x]; exact Entails.of_eq h1.symm)
    (by rw [payload_x]; exact Entails.of_eq (h3 fd))) $$ [HO Ht1 Ht2 Hd Hs]
  · isplitr; · iapply (inv_x I K c false k p); iexact HR
    isplitr; · iapply (inv_x I K (pr c p) true k (yc c)); iexact HR
    isplitl [Hs]; · iexact Hs
    isplitl [Hd]; · iexact Hd
    isplitl [HO]; · iexact HO
    isplitl [Ht1]; · iexact Ht1
    isplitr; · iapply (rch_x I K c false k p); iexact HR
    isplitl [Ht2]; · iexact Ht2
    iapply (rch_x I K (pr c p) true k (yc c)); iexact HR
  iintro ⟨Hc, HO⟩
  iapply Hk
  isplitl [HO]; · iexists W; iexact HO
  iexact Hc

/-! ## A wait for a transfer -/

theorem wait_at {p : Fin 4} (hp : p ≠ yc c) (b : Bool) (k : Chan) (l : List Ev) (hl : ∀ e ∈ l, lvl (.dma (xs b k p)) < evLv e)
    {sm : DmaSem sig} (hsm : sm = xs b k p) {κ' : Kind} {r : Ref sig κ'} {s : Shape} {e : EltTy} (hN : r.dmaCredit s e = N k)
    {hk : (c : Thread nD τ).2 = .tc ∨ r.HasMemref s e}
    {kk : PUnit → Prog (TpuEff nD τ sig (Elt F) Λ₀ .tc) α} {Q : α → sProp 𝕄} :
    iprop(recs I K ∗ ow c (tot c l) ∗ cred (tallyAt (xC c b k p) () (N k)) ∗ atPos ER (xC c b k p) 0 ∅ 0)
      ⊢ iprop((iprop(ow c (tot c l) ∗ xPay I b k c p ∗ atPos ER (xC c b k p) 1 ∅ 0) -∗ WP c (kk ⟨⟩) Q)
          -∗ WP c (.op (.waitDma sm r s e hk) kk) Q) := by
  subst hsm
  iintro ⟨#HR, ⟨%W, HO⟩, Hc, Ha⟩ Hk
  iapply (Rounds.wp_wait_rest_token 𝒱₀ ER (Rd I) (c : Thread nD τ) none (κ := K (c, cix b k p))
      (fun Kt => (wpE_waitDma_eq 𝒱₀ (c : Thread nD τ) none Set.univ Kt).trans (by rw [hN])) (Set.mem_univ _) () (O := tot c l) (W := W) (R := 0) (m := 0) (T := ∅)
      (by rw [Nat.zero_add, expect_x I c b k p hp])) $$ [Hc HO Ha]
  · isplitr; · iapply (inv_x I K c b k p); iexact HR
    isplitl [Hc]; · iexact Hc
    isplitl [HO]; · iexact HO
    isplitr; · iapply (recs_may I K c (.dma (xs b k p)) l hl); iexact HR
    iexact Ha
  iintro ⟨HO, Ha, -, Hpay⟩
  iapply Hk
  isplitl [HO]; · iexists _; iexact HO
  isplitl [Hpay]; · iapply (Entails.of_eq (rest_x I c b k p hp)); iexact Hpay
  iexact Ha

/-- The wait for the three signals: every peer's slots in its landing buffers. -/
theorem wait_bar (l : List Ev) (hl : ∀ e ∈ l, 1 < evLv e) (a : ℕ) (ha : a = 3)
    {kk : PUnit → Prog (TpuEff nD τ sig (Elt F) Λ₀ .tc) α} {Q : α → sProp 𝕄} :
    iprop(recs I K ∗ ow c (tot c l) ∗ cred (tallyAt (barC c) () 3) ∗ atPos ER (barC c) 0 ∅ 0)
      ⊢ iprop((iprop(ow c (tot c l) ∗ (on c 0 (barPay c 0) ∗ on c 1 (barPay c 1) ∗ on c 2 (barPay c 2) ∗ on c 3 (barPay c 3))
            ∗ atPos ER (barC c) 1 ∅ 0) -∗ WP c (kk ⟨⟩) Q)
          -∗ WP c (.op (.semWait barS a) kk) Q) := by
  subst ha
  iintro ⟨#HR, ⟨%W, HO⟩, Hc, Ha⟩ Hk
  iapply (Rounds.wp_wait_rest_token 𝒱₀ ER (Rd I) (c : Thread nD τ) none (κ := K (c, 0))
      (wpE_semWait_eq 𝒱₀ (c : Thread nD τ) none Set.univ) (Set.mem_univ _) () (O := tot c l) (W := W) (R := 0) (m := 0) (T := ∅)
      (by rw [Nat.zero_add, expect_bar])) $$ [Hc HO Ha]
  · isplitr; · iapply (inv_b I K c); iexact HR
    isplitl [Hc]; · iexact Hc
    isplitl [HO]; · iexact HO
    isplitr; · iapply (recs_may I K c (.reg barS) l hl); iexact HR
    iexact Ha
  iintro ⟨HO, Ha, -, Hpay⟩
  iapply Hk
  isplitl [HO]; · iexists _; iexact HO
  isplitl [Hpay]; · iapply (Entails.of_eq (rest_bar I c)); iexact Hpay
  iexact Ha

end Steps

/-! ## Resources of one exchange with one peer -/

section Res
variable (c : Dev nD)

/-- What a transfer is paid with, but for its source. -/
def tokX (k : Chan) (p : Fin 4) : sProp 𝕄 := iprop(dutyTok ER (xC c false k p) 0 0 ∗ dutyTok ER (xC (pr c p) true k (yc c)) 0 0 ∗ land k (pr c p) (yc c))
def credX (b : Bool) (k : Chan) (p : Fin 4) : sProp 𝕄 := cred (tallyAt (xC c b k p) () (N k))
/-- The position at a cell after its wait, which the device's own coordinate skips. -/
def posX (b : Bool) (k : Chan) (p : Fin 4) : sProp 𝕄 := atPos ER (xC c b k p) (if p = yc c then 0 else 1) ∅ 0

/-- Ready to send: tokens, the landing slot, the source. -/
def sendPre (k : Chan) (p : Fin 4) : sProp 𝕄 := on c p (iprop(tokX c k p ∗ sent I k c p))
def waitPre (b : Bool) (k : Chan) (p : Fin 4) : sProp 𝕄 := iprop(on c p (credX c b k p) ∗ atPos ER (xC c b k p) 0 ∅ 0)
abbrev waitPost (b : Bool) (k : Chan) (p : Fin 4) : sProp 𝕄 := iprop(on c p (xPay I b k c p) ∗ posX c b k p)

theorem wait_own {p : Fin 4} (hp : p = yc c) (b : Bool) (k : Chan) : waitPre c b k p ⊢ waitPost I c b k p := by
  unfold waitPre waitPost posX; rw [on_self hp, on_self hp, if_pos hp]

theorem wait_peer {p : Fin 4} (hp : p ≠ yc c) (b : Bool) (k : Chan) (l : List Ev) (hl : ∀ e ∈ l, lvl (.dma (xs b k p)) < evLv e)
    {sm : DmaSem sig} (hsm : sm = xs b k p) {κ' : Kind} {r : Ref sig κ'} {s : Shape} {e : EltTy} (hN : r.dmaCredit s e = N k)
    {hk : (c : Thread nD τ).2 = .tc ∨ r.HasMemref s e}
    {α : Type} {kk : PUnit → Prog (TpuEff nD τ sig (Elt F) Λ₀ .tc) α} {Q : α → sProp 𝕄} :
    iprop(recs I K ∗ ow c (tot c l) ∗ waitPre c b k p)
      ⊢ iprop((iprop(ow c (tot c l) ∗ waitPost I c b k p) -∗ WP c (kk ⟨⟩) Q)
          -∗ WP c (.op (.waitDma sm r s e hk) kk) Q) := by
  unfold waitPre waitPost posX credX
  rw [on_peer hp, on_peer hp, if_neg hp]
  exact wait_at I K c hp b k l hl hsm hN

theorem send_peer {p : Fin 4} (hp : p ≠ yc c) (k : Chan) (l : List Ev) {n : Dev nD} (hn : n = pr c p)
    {cs cs' : Space} {s : Shape} {e : EltTy} {src : Memref sig .tc cs s e} {dst : Memref sig .tc cs' s e}
    {sS sR : DmaSem sig} (hS : sS = xs false k p) (hR : sR = xs true k (yc c)) (hN : dst.view.dmaCredit = N k)
    {hsc : (dst : Memref sig (Dev.tc n : Thread nD τ).2.kind cs' s e).view.ref.isScScratch = false}
    {hsrc : src.view.WordExact} {hdst : dst.view.WordExact}
    {hsem : DmaTarget.Typed cs (.dma sR) (.remote (Dev.tc n : Thread nD τ) dst (.dma sS) hsc)}
    {q : PosShare TreeShare} {fs : Buf (Elt F) (src.view.loc (c : Thread nD τ))}
    (h1 : sent I k c p = (src.view.loc (c : Thread nD τ) ↦[src.view.set]{q} fs))
    (h2 : land (F := F) k (pr c p) (yc c) = iprop(∃ fd, dst.view.loc (pr c p : Thread nD τ) ↦[dst.view.set]{fullShare} fd))
    (h3 : ∀ fd, (dst.view.loc (pr c p : Thread nD τ) ↦[dst.view.set]{fullShare} dst.view.write (Elt F) fd (src.view.read (Elt F) fs) Finset.univ)
      = recvd I k (pr c p) (yc c))
    {α : Type} {kk : PUnit → Prog (TpuEff nD τ sig (Elt F) Λ₀ .tc) α} {Q : α → sProp 𝕄} :
    iprop(recs I K ∗ ow c (tot c ((some k, p) :: l)) ∗ sendPre I c k p)
      ⊢ iprop((iprop(ow c (tot c l) ∗ on c p (credX c false k p)) -∗ WP c (kk ⟨⟩) Q)
          -∗ WP c (.op (.enqueueDma src (.remote (Dev.tc n : Thread nD τ) dst (.dma sS) hsc) (.dma sR) hsrc hdst hsem) kk) Q) := by
  unfold sendPre tokX credX
  rw [on_peer hp, on_peer hp]
  iintro ⟨HR, HO, ⟨H1, H2, H3⟩, H4⟩
  iapply (send_at I K c hp k l hn hS hR hN h1 h2 h3)
  isplitl [HR]; · iexact HR
  isplitl [HO]; · iexact HO
  isplitl [H1]; · iexact H1
  isplitl [H2]; · iexact H2
  isplitl [H3]; · iexact H3
  iexact H4

theorem send_own {p : Fin 4} (hp : p = yc c) (k : Chan) (l : List Ev) :
    iprop(ow c (tot c ((some k, p) :: l)) ∗ sendPre I c k p) ⊢ iprop(ow c (tot c l) ∗ on c p (credX c false k p)) := by
  unfold sendPre; rw [on_self hp, on_self hp, tot_own (some k) hp]

end Res

end Cert.Mla
end
-- ==== Proof.Sends.lean ====
/-
The transfers and the waits of the five exchanges, at the slices the kernel names.
-/
module

public import proofs.«01_k».proof.Proof.Steps

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (I : Dev nD → Ins F) (K : Dev nD × Fin 41 → ℕ)

/-! ## The slices -/

abbrev cV {off : Fin 3 → ℕ} (inb : ∀ a, off a + S1x512x64.size a ≤ S4x512x64.size a) : Memref sig .tc .vmem S512x64 .bf16 :=
  ((Memref.whole cc0_scratch0).slice (Rect.unit (s := S4x512x64) off S1x512x64.size inb) (fun _ => rfl)).squeeze S512x64 squeezes_S1x512x64_S512x64
/-- A slot of one of the four buffers of key and value blocks. -/
abbrev wV (m : Memref sig .tc .vmem S4x64x256 .bf16) {off : Fin 3 → ℕ} (inb : ∀ a, off a + S1x64x256.size a ≤ S4x64x256.size a) : Memref sig .tc .vmem S64x256 .bf16 :=
  (m.slice (Rect.unit (s := S4x64x256) off S1x64x256.size inb) (fun _ => rfl)).squeeze S64x256 squeezes_S1x64x256_S64x256
abbrev oV {off : Fin 3 → ℕ} (inb : ∀ a, off a + S1x256x256.size a ≤ S4x512x256.size a) : Memref sig .tc .vmem S256x256 .bf16 :=
  ((Memref.whole cc0_scratch5).slice (Rect.unit (s := S4x512x256) off S1x256x256.size inb) (fun _ => rfl)).squeeze S256x256 squeezes_S1x256x256_S256x256

theorem cV_set {off : Fin 3 → ℕ} (inb : ∀ a, off a + S1x512x64.size a ≤ S4x512x64.size a) :
    (cV inb).view.set = (Rect.unit (s := S4x512x64) off S1x512x64.size inb).set := by
  rw [View.set_reshape]; exact View.set_slice_whole _ _
theorem oV_set {off : Fin 3 → ℕ} (inb : ∀ a, off a + S1x256x256.size a ≤ S4x512x256.size a) :
    (oV inb).view.set = (Rect.unit (s := S4x512x256) off S1x256x256.size inb).set := by
  rw [View.set_reshape]; exact View.set_slice_whole _ _
theorem wV_set1 {off : Fin 3 → ℕ} (inb : ∀ a, off a + S1x64x256.size a ≤ S4x64x256.size a) :
    (wV (Memref.whole cc0_scratch1) inb).view.set = (Rect.unit (s := S4x64x256) off S1x64x256.size inb).set := by
  rw [View.set_reshape]; exact View.set_slice_whole _ _
theorem wV_set2 {off : Fin 3 → ℕ} (inb : ∀ a, off a + S1x64x256.size a ≤ S4x64x256.size a) :
    (wV (Memref.whole cc0_scratch2) inb).view.set = (Rect.unit (s := S4x64x256) off S1x64x256.size inb).set := by
  rw [View.set_reshape]; exact View.set_slice_whole _ _
theorem wV_set3 {off : Fin 3 → ℕ} (inb : ∀ a, off a + S1x64x256.size a ≤ S4x64x256.size a) :
    (wV (Memref.whole cc0_scratch3) inb).view.set = (Rect.unit (s := S4x64x256) off S1x64x256.size inb).set := by
  rw [View.set_reshape]; exact View.set_slice_whole _ _
theorem wV_set4 {off : Fin 3 → ℕ} (inb : ∀ a, off a + S1x64x256.size a ≤ S4x64x256.size a) :
    (wV (Memref.whole cc0_scratch4) inb).view.set = (Rect.unit (s := S4x64x256) off S1x64x256.size inb).set := by
  rw [View.set_reshape]; exact View.set_slice_whole _ _

section Transfers
variable (c : Dev nD) {p : Fin 4} (hp : p ≠ yc c) (l : List Ev) {n : Dev nD} (hn : n = pr c p) {sS sR : DmaSem sig}
include hp hn

theorem send_c (hS : sS = xs false 0 p) (hR : sR = xs true 0 (yc c)) {off : Fin 3 → ℕ} (h : off = ![(yc c).val, 0, 0])
    {inb inb' : ∀ a, off a + S1x512x64.size a ≤ S4x512x64.size a}
    {hsc : (cV inb' : Memref sig (Dev.tc n : Thread nD τ).2.kind .vmem _ _).view.ref.isScScratch = false}
    {hsrc : (cV inb).view.WordExact} {hdst : (cV inb').view.WordExact}
    {hsem : DmaTarget.Typed .vmem (.dma sR) (.remote (Dev.tc n : Thread nD τ) (cV inb') (.dma sS) hsc)}
    {α : Type} {kk : PUnit → Prog (TpuEff nD τ sig (Elt F) Λ₀ .tc) α} {Q : α → sProp 𝕄} :
    iprop(recs I K ∗ ow c (tot c ((some 0, p) :: l)) ∗ sendPre I c 0 p)
      ⊢ iprop((iprop(ow c (tot c l) ∗ on c p (credX c false 0 p)) -∗ WP c (kk ⟨⟩) Q)
          -∗ WP c (.op (.enqueueDma (cV inb) (.remote (Dev.tc n : Thread nD τ) (cV inb') (.dma sS) hsc) (.dma sR) hsrc hdst hsem) kk) Q) := by
  subst h
  refine send_peer I K c hp 0 l hn hS hR rfl (q := lf p) (fs := CB I c) ?_ ?_ fun fd => ?_
  · show pts c cc0_scratch0 (slotR 512 64 (yc c)).set (lf p) (CB I c) = _
    rw [cV_set]
  · show iprop(∃ f, pts (pr c p) cc0_scratch0 (slotR 512 64 (yc c)).set fullShare f) = _
    rw [cV_set]
  · show _ = pts (pr c p) cc0_scratch0 (slotR 512 64 (yc c)).set fullShare (CB I (pr c p))
    rw [cV_set, CB_pr]
    exact pts_congr fun i hi => write_on (cV inb').view fd (CB I c) _ (fun x => rfl) i (by rw [cV_set]; exact hi)

theorem send_k (hS : sS = xs false 1 p) (hR : sR = xs true 1 (yc c)) {off off' : Fin 3 → ℕ} (h : off = ![p.val, 0, 0]) (h' : off' = ![(yc c).val, 0, 0])
    {inb : ∀ a, off a + S1x64x256.size a ≤ S4x64x256.size a} {inb' : ∀ a, off' a + S1x64x256.size a ≤ S4x64x256.size a}
    {hsc : (wV (Memref.whole cc0_scratch3) inb' : Memref sig (Dev.tc n : Thread nD τ).2.kind .vmem _ _).view.ref.isScScratch = false}
    {hsrc : (wV (Memref.whole cc0_scratch1) inb).view.WordExact} {hdst : (wV (Memref.whole cc0_scratch3) inb').view.WordExact}
    {hsem : DmaTarget.Typed .vmem (.dma sR) (.remote (Dev.tc n : Thread nD τ) (wV (Memref.whole cc0_scratch3) inb') (.dma sS) hsc)}
    {α : Type} {kk : PUnit → Prog (TpuEff nD τ sig (Elt F) Λ₀ .tc) α} {Q : α → sProp 𝕄} :
    iprop(recs I K ∗ ow c (tot c ((some 1, p) :: l)) ∗ sendPre I c 1 p)
      ⊢ iprop((iprop(ow c (tot c l) ∗ on c p (credX c false 1 p)) -∗ WP c (kk ⟨⟩) Q)
          -∗ WP c (.op (.enqueueDma (wV (Memref.whole cc0_scratch1) inb) (.remote (Dev.tc n : Thread nD τ) (wV (Memref.whole cc0_scratch3) inb') (.dma sS) hsc) (.dma sR) hsrc hdst hsem) kk) Q) := by
  subst h h'
  refine send_peer I K c hp 1 l hn hS hR rfl (q := fullShare) (fs := WKS I c) ?_ ?_ fun fd => ?_
  · show pts c cc0_scratch1 (slotR 64 256 p).set fullShare (WKS I c) = _
    rw [wV_set1]
  · show iprop(∃ f, pts (pr c p) cc0_scratch3 (slotR 64 256 (yc c)).set fullShare f) = _
    rw [wV_set3]
  · show _ = pts (pr c p) cc0_scratch3 (slotR 64 256 (yc c)).set fullShare (WK I (pr c p))
    rw [wV_set3]
    refine pts_congr fun i hi => write_on (wV (Memref.whole cc0_scratch3) inb').view fd (WK I (pr c p)) _ (fun x => ?_) i (by rw [wV_set3]; exact hi)
    have e1 := stk_emb (A := 64) (B := 256) (fun q => wkS I (pr (pr c p) q) (yc (pr c p))) (yc c) (Shape.reshapeEquiv squeezes_S1x64x256_S64x256.numel_eq x)
    have e2 := stk_emb (A := 64) (B := 256) (fun q => wkS I c q) p (Shape.reshapeEquiv squeezes_S1x64x256_S64x256.numel_eq x)
    have e3 : wkS I (pr (pr c p) (yc c)) (yc (pr c p)) = wkS I c p := by rw [pr_back, yc_pr]
    exact e1.trans ((congrFun e3 _).trans e2.symm)

theorem send_v (hS : sS = xs false 2 p) (hR : sR = xs true 2 (yc c)) {off off' : Fin 3 → ℕ} (h : off = ![p.val, 0, 0]) (h' : off' = ![(yc c).val, 0, 0])
    {inb : ∀ a, off a + S1x64x256.size a ≤ S4x64x256.size a} {inb' : ∀ a, off' a + S1x64x256.size a ≤ S4x64x256.size a}
    {hsc : (wV (Memref.whole cc0_scratch4) inb' : Memref sig (Dev.tc n : Thread nD τ).2.kind .vmem _ _).view.ref.isScScratch = false}
    {hsrc : (wV (Memref.whole cc0_scratch2) inb).view.WordExact} {hdst : (wV (Memref.whole cc0_scratch4) inb').view.WordExact}
    {hsem : DmaTarget.Typed .vmem (.dma sR) (.remote (Dev.tc n : Thread nD τ) (wV (Memref.whole cc0_scratch4) inb') (.dma sS) hsc)}
    {α : Type} {kk : PUnit → Prog (TpuEff nD τ sig (Elt F) Λ₀ .tc) α} {Q : α → sProp 𝕄} :
    iprop(recs I K ∗ ow c (tot c ((some 2, p) :: l)) ∗ sendPre I c 2 p)
      ⊢ iprop((iprop(ow c (tot c l) ∗ on c p (credX c false 2 p)) -∗ WP c (kk ⟨⟩) Q)
          -∗ WP c (.op (.enqueueDma (wV (Memref.whole cc0_scratch2) inb) (.remote (Dev.tc n : Thread nD τ) (wV (Memref.whole cc0_scratch4) inb') (.dma sS) hsc) (.dma sR) hsrc hdst hsem) kk) Q) := by
  subst h h'
  refine send_peer I K c hp 2 l hn hS hR rfl (q := fullShare) (fs := WVS I c) ?_ ?_ fun fd => ?_
  · show pts c cc0_scratch2 (slotR 64 256 p).set fullShare (WVS I c) = _
    rw [wV_set2]
  · show iprop(∃ f, pts (pr c p) cc0_scratch4 (slotR 64 256 (yc c)).set fullShare f) = _
    rw [wV_set4]
  · show _ = pts (pr c p) cc0_scratch4 (slotR 64 256 (yc c)).set fullShare (WV I (pr c p))
    rw [wV_set4]
    refine pts_congr fun i hi => write_on (wV (Memref.whole cc0_scratch4) inb').view fd (WV I (pr c p)) _ (fun x => ?_) i (by rw [wV_set4]; exact hi)
    have e1 := stk_emb (A := 64) (B := 256) (fun q => wvS I (pr (pr c p) q) (yc (pr c p))) (yc c) (Shape.reshapeEquiv squeezes_S1x64x256_S64x256.numel_eq x)
    have e2 := stk_emb (A := 64) (B := 256) (fun q => wvS I c q) p (Shape.reshapeEquiv squeezes_S1x64x256_S64x256.numel_eq x)
    have e3 : wvS I (pr (pr c p) (yc c)) (yc (pr c p)) = wvS I c p := by rw [pr_back, yc_pr]
    exact e1.trans ((congrFun e3 _).trans e2.symm)

theorem send_o0 (hS : sS = xs false 3 p) (hR : sR = xs true 3 (yc c)) {off : Fin 3 → ℕ} (h : off = ![(yc c).val, 0, 0])
    {inb inb' : ∀ a, off a + S1x256x256.size a ≤ S4x512x256.size a}
    {hsc : (oV inb' : Memref sig (Dev.tc n : Thread nD τ).2.kind .vmem _ _).view.ref.isScScratch = false}
    {hsrc : (oV inb).view.WordExact} {hdst : (oV inb').view.WordExact}
    {hsem : DmaTarget.Typed .vmem (.dma sR) (.remote (Dev.tc n : Thread nD τ) (oV inb') (.dma sS) hsc)}
    {α : Type} {kk : PUnit → Prog (TpuEff nD τ sig (Elt F) Λ₀ .tc) α} {Q : α → sProp 𝕄} :
    iprop(recs I K ∗ ow c (tot c ((some 3, p) :: l)) ∗ sendPre I c 3 p)
      ⊢ iprop((iprop(ow c (tot c l) ∗ on c p (credX c false 3 p)) -∗ WP c (kk ⟨⟩) Q)
          -∗ WP c (.op (.enqueueDma (oV inb) (.remote (Dev.tc n : Thread nD τ) (oV inb') (.dma sS) hsc) (.dma sR) hsrc hdst hsem) kk) Q) := by
  subst h
  refine send_peer I K c hp 3 l hn hS hR rfl (q := lf p) (fs := OB I c) ?_ ?_ fun fd => ?_
  · show pts c cc0_scratch5 (halfR (yc c) 0).set (lf p) (OB I c) = _
    rw [oV_set]; rfl
  · show iprop(∃ f, pts (pr c p) cc0_scratch5 (halfR (yc c) 0).set fullShare f) = _
    rw [oV_set]; rfl
  · show _ = pts (pr c p) cc0_scratch5 (halfR (yc c) 0).set fullShare (OB I (pr c p))
    rw [oV_set, OB_pr]
    exact pts_congr fun i hi => write_on (oV inb').view fd (OB I c) _ (fun x => rfl) i (by rw [oV_set]; exact hi)

theorem send_o1 (hS : sS = xs false 4 p) (hR : sR = xs true 4 (yc c)) {off : Fin 3 → ℕ} (h : off = ![(yc c).val, 256, 0])
    {inb inb' : ∀ a, off a + S1x256x256.size a ≤ S4x512x256.size a}
    {hsc : (oV inb' : Memref sig (Dev.tc n : Thread nD τ).2.kind .vmem _ _).view.ref.isScScratch = false}
    {hsrc : (oV inb).view.WordExact} {hdst : (oV inb').view.WordExact}
    {hsem : DmaTarget.Typed .vmem (.dma sR) (.remote (Dev.tc n : Thread nD τ) (oV inb') (.dma sS) hsc)}
    {α : Type} {kk : PUnit → Prog (TpuEff nD τ sig (Elt F) Λ₀ .tc) α} {Q : α → sProp 𝕄} :
    iprop(recs I K ∗ ow c (tot c ((some 4, p) :: l)) ∗ sendPre I c 4 p)
      ⊢ iprop((iprop(ow c (tot c l) ∗ on c p (credX c false 4 p)) -∗ WP c (kk ⟨⟩) Q)
          -∗ WP c (.op (.enqueueDma (oV inb) (.remote (Dev.tc n : Thread nD τ) (oV inb') (.dma sS) hsc) (.dma sR) hsrc hdst hsem) kk) Q) := by
  subst h
  refine send_peer I K c hp 4 l hn hS hR rfl (q := lf p) (fs := OB I c) ?_ ?_ fun fd => ?_
  · show pts c cc0_scratch5 (halfR (yc c) 1).set (lf p) (OB I c) = _
    rw [oV_set]; rfl
  · show iprop(∃ f, pts (pr c p) cc0_scratch5 (halfR (yc c) 1).set fullShare f) = _
    rw [oV_set]; rfl
  · show _ = pts (pr c p) cc0_scratch5 (halfR (yc c) 1).set fullShare (OB I (pr c p))
    rw [oV_set, OB_pr]
    exact pts_congr fun i hi => write_on (oV inb').view fd (OB I c) _ (fun x => rfl) i (by rw [oV_set]; exact hi)

end Transfers

end Cert.Mla
end
-- ==== Proof.Parts1.lean ====
/-
The first parts of the body: the signals, the products of the local blocks, the buffers that are sent.
-/
module

public import proofs.«01_k».proof.Proof.Sends

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (I : Dev nD → Ins F) (K : Dev nD × Fin 41 → ℕ)

/-! ## The kernel's own words -/

section Words
variable (c : Dev nD)

def w2 : BitVec 32 := Scalar.remsi (Scalar.divsi (Dev.word c) 16#32) 2#32
def w5 : BitVec 32 := Scalar.remsi (Scalar.divsi (Dev.word c) 4#32) 4#32
def w8 : BitVec 32 := Scalar.remsi (Scalar.divsi (Dev.word c) 1#32) 4#32
/-- The guard of peer `p`. -/
def gd (p : BitVec 32) : BitVec 1 := Scalar.cmpi .ne (Scalar.extui (Scalar.cmpi .ne (w5 c) p)) 0#32

theorem gd_iff (p : Fin 4) : gd c (BitVec.ofNat 32 p.val) = 1#1 ↔ p ≠ yc c := by revert c p; decide +kernel

theorem dev_at {n : ℕ} (p : Fin 4) (h : n = 16 * (c.val / 16) + c.val % 4 + 4 * p.val) (hlt : n < nD) : (⟨n, hlt⟩ : Dev nD) = pr c p := by
  apply Fin.ext; show n = 16 * (c.val / 16) + 4 * p.val + c.val % 4; omega

/-- A program that is done. -/
theorem wp_done {α : Type} {a b : α} (h : a = b) {Q : α → sProp 𝕄} : Q b ⊢ WP (F := F) c (.ret a) Q := by
  subst h
  show Q a ⊢ wp frame (wpE (defs₀ (F := F)) 𝒱₀ (c : Thread nD τ) none) Set.univ (.ret a) Q
  rw [wp_ret]; iintro H; imodintro; iexact H

theorem slot_in (A B : ℕ) (p : Fin 4) : ∀ a, (![p.val, 0, 0] : Fin 3 → ℕ) a + (![1, A, B] : Fin 3 → ℕ) a ≤ (![4, A, B] : Fin 3 → ℕ) a := by
  have := p.isLt
  intro a; fin_cases a
  · show p.val + 1 ≤ 4; omega
  · show 0 + A ≤ A; omega
  · show 0 + B ≤ B; omega

theorem at3 {off : Fin 3 → ℕ} {a b : ℕ} (h : off = ![c.val / 4 % 4, a, b]) : off = ![(yc c).val, a, b] := h

theorem zero2 : (![0, 0] : Fin 2 → ℕ) = fun _ => 0 := by funext a; fin_cases a <;> rfl
theorem zero3 : (![0, 0, 0] : Fin 3 → ℕ) = fun _ => 0 := by funext a; fin_cases a <;> rfl

end Words

section Parts
variable (c : Dev nD)

abbrev X0 : sProp 𝕄 := pts c cc0_stg0_0 Finset.univ fullShare (I c).x
abbrev X1 : sProp 𝕄 := pts c cc0_stg1_0 Finset.univ fullShare (I c).wdkv
abbrev X2 : sProp 𝕄 := pts c cc0_stg2_0 Finset.univ fullShare (I c).wuk
abbrev X3 : sProp 𝕄 := pts c cc0_stg3_0 Finset.univ fullShare (I c).wuv
abbrev X4 : sProp 𝕄 := pts c cc0_stg4_0 Finset.univ fullShare (I c).wq
abbrev X5 : sProp 𝕄 := pts c cc0_stg5_0 Finset.univ fullShare (I c).wqr
abbrev X6 : sProp 𝕄 := pts c cc0_stg6_0 Finset.univ fullShare (I c).wkr
abbrev X7 : sProp 𝕄 := pts c cc0_stg7_0 Finset.univ fullShare (I c).wo

/-- What the signal to peer `p` hands over. -/
def sigX (p : Fin 4) : sProp 𝕄 := on c p (iprop(dutyTok ER (barC (pr c p)) 0 (yc c) ∗ bigSep Finset.univ fun k => land (F := F) k c p))

abbrev r13 (f0 : Vec F S4x512x64 .bf16) : Σ' (d0 : Dev nD) (v2 : BitVec 32) (v5 : BitVec 32) (v8 : BitVec 32) (v9 : Sems sig S_) (v25 : FVec F S512x1024 .bf16) (v30 : FVec F S512x64 .bf16), Vec F S1x512x64 .bf16 :=
  ⟨c, w2 c, w5 c, w8 c, SemArray.scalar (sig.barrier 0 rfl), k0_pay1 (I c).x, k0_pay2 (I c).x (I c).wdkv, rd (slotR 512 64 (yc c)) f0⟩

theorem part13_spec (f0 : Vec F S4x512x64 .bf16) {Q : _ → sProp 𝕄} :
    iprop(recs I K ∗ ow c (tot c evAll) ∗ (sigX c 0 ∗ sigX c 1 ∗ sigX c 2 ∗ sigX c 3) ∗ X0 I c ∗ X1 I c
        ∗ pts c cc0_scratch0 (slotR 512 64 (yc c)).set fullShare f0)
      ⊢ iprop((iprop(ow c (tot c evX) ∗ X0 I c ∗ X1 I c ∗ pts c cc0_scratch0 (slotR 512 64 (yc c)).set fullShare f0) -∗ Q (r13 I c f0))
        -∗ WP c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) Q) := by
  rw [k0_part13_eq_skeleton]; unfold k0_part13_skel sigX
  simp only [semSignalWord, Prog.lift, Prog.bind_op, Prog.bind_ret, Prog.pure_eq_ret, WP, wp_deviceId]
  iintro ⟨#HR, HO, ⟨H0, H1, H2, H3⟩, HX0, HX1, Hc⟩ Hk
  iapply (signal_step I K c (p := 0) (gd_iff c 0) _ (fun h => ⟨k0_dev1 c, k0_dev1_lt c h⟩) (fun h => dev_at c 0 (k0_dev1_eq c) _) _ rfl) $$ [HO H0]
  · isplitr; · iexact HR
    isplitl [HO]; · iexact HO
    iexact H0
  iintro HO
  iapply (signal_step I K c (p := 1) (gd_iff c 1) _ (fun h => ⟨k0_dev2 c, k0_dev2_lt c h⟩) (fun h => dev_at c 1 (k0_dev2_eq c) _) _ rfl) $$ [HO H1]
  · isplitr; · iexact HR
    isplitl [HO]; · iexact HO
    iexact H1
  iintro HO
  iapply (signal_step I K c (p := 2) (gd_iff c 2) _ (fun h => ⟨k0_dev3 c, k0_dev3_lt c h⟩) (fun h => dev_at c 2 (k0_dev3_eq c) _) _ rfl) $$ [HO H2]
  · isplitr; · iexact HR
    isplitl [HO]; · iexact HO
    iexact H2
  iintro HO
  iapply (signal_step I K c (p := 3) (gd_iff c 3) _ (fun h => ⟨k0_dev4 c, k0_dev4_lt c h⟩) (fun h => dev_at c 3 (k0_dev4_eq c) _) _ rfl) $$ [HO H3]
  · isplitr; · iexact HR
    isplitl [HO]; · iexact HO
    iexact H3
  iintro HO
  iapply (wp_load_all c zero3) $$ HX0
  iintro HX0
  iapply (wp_load_all c zero2) $$ HX1
  iintro HX1
  iapply (wp_load_at c (n := 9) (hn := rfl) (at3 c (k0_off1_eq c)) (slot_in 512 64 (yc c))) $$ Hc
  iintro Hc
  iapply (wp_done c (b := r13 I c f0) rfl)
  iapply Hk
  isplitl [HO]; · iexact HO
  isplitl [HX0]; · iexact HX0
  isplitl [HX1]; · iexact HX1
  iexact Hc

/-- Slot `p` of a buffer of four slots, whole. -/
abbrev sl1 (p : Fin 4) (f : Vec F S4x64x256 .bf16) : sProp 𝕄 := pts c cc0_scratch1 (slotR 64 256 p).set fullShare f
abbrev sl2 (p : Fin 4) (f : Vec F S4x64x256 .bf16) : sProp 𝕄 := pts c cc0_scratch2 (slotR 64 256 p).set fullShare f
abbrev sl3 (p : Fin 4) (f : Vec F S4x64x256 .bf16) : sProp 𝕄 := pts c cc0_scratch3 (slotR 64 256 p).set fullShare f
abbrev sl4 (p : Fin 4) (f : Vec F S4x64x256 .bf16) : sProp 𝕄 := pts c cc0_scratch4 (slotR 64 256 p).set fullShare f

theorem rd_WKS (p : Fin 4) : rd (slotR 64 256 p) (WKS I c) = wkS I c p := rd_stk _ p
theorem rd_WVS (p : Fin 4) : rd (slotR 64 256 p) (WVS I c) = wvS I c p := rd_stk _ p
theorem rd_CB (p : Fin 4) : rd (slotR 512 64 p) (CB I c) = cS I (pr c p) := rd_stk _ p
theorem rd_WK (p : Fin 4) : rd (slotR 64 256 p) (WK I c) = wkS I (pr c p) (yc c) := rd_stk _ p
theorem rd_WV (p : Fin 4) : rd (slotR 64 256 p) (WV I c) = wvS I (pr c p) (yc c) := rd_stk _ p

theorem pay13_id (v : Vec F S1x64x256 .bf16) : k0_pay13 v = v := by
  unfold k0_pay13; exact funext fun i => congrArg v (by show Shape.reshapeEquiv _ (Shape.reshapeEquiv _ i) = i; rw [Shape.reshapeEquiv_reshapeEquiv, Shape.reshapeEquiv_self])
theorem pay15_id (v : Vec F S1x64x256 .bf16) : k0_pay15 (k0_pay14 v) = v := by
  unfold k0_pay15 k0_pay14; exact funext fun i => congrArg v (by show Shape.reshapeEquiv _ (Shape.reshapeEquiv _ i) = i; rw [Shape.reshapeEquiv_reshapeEquiv, Shape.reshapeEquiv_self])

theorem col_off (q : Fin 4) : ∀ a, (![0, 256 * q.val] : Fin 2 → ℕ) a + (![64, 256] : Fin 2 → ℕ) a ≤ (![64, 1024] : Fin 2 → ℕ) a := by
  have := q.isLt
  intro a; fin_cases a
  · show 0 + 64 ≤ 64; omega
  · show 256 * q.val + 256 ≤ 1024; omega

theorem part14_spec (f0 : Vec F S4x512x64 .bf16) (f1 f2 : Vec F S4x64x256 .bf16) (v32 : Vec F S1x512x64 .bf16) {Q : _ → sProp 𝕄} :
    iprop(pts c cc0_scratch0 (slotR 512 64 (yc c)).set fullShare f0 ∗ X2 I c ∗ X3 I c ∗ (sl1 c 0 f1 ∗ sl1 c 1 f1 ∗ sl1 c 2 f1) ∗ (sl2 c 0 f2 ∗ sl2 c 1 f2))
      ⊢ iprop((iprop(pts c cc0_scratch0 (slotR 512 64 (yc c)).set fullShare (CB I c) ∗ X2 I c ∗ X3 I c
            ∗ (sl1 c 0 (WKS I c) ∗ sl1 c 1 (WKS I c) ∗ sl1 c 2 f1) ∗ (sl2 c 0 (WVS I c) ∗ sl2 c 1 (WVS I c)))
          -∗ Q ⟨k0_pay8 (rd (colR 64 2) (I c).wuk), rd (slotR 64 256 2) f1⟩)
        -∗ WP c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (k0_pay2 (I c).x (I c).wdkv) v32) Q) := by
  rw [k0_part14_eq_skeleton]; unfold k0_part14_skel
  simp only [Prog.lift, Prog.bind_op, Prog.bind_ret, Prog.pure_eq_ret, WP]
  iintro ⟨Hc, HX2, HX3, ⟨H10, H11, H12⟩, H20, H21⟩ Hk
  iapply (wp_store_at c (n := 9) (hn := rfl) (at3 c (k0_off1_eq c)) (slot_in 512 64 (yc c)) (CB I c) (by rw [rd_CB, pr_yc]; rfl)) $$ Hc
  iintro Hc
  iapply (wp_load_in c (n := 2) (hn := rfl) (off' := ![0, 256 * (0 : Fin 4).val]) rfl (col_off 0)) $$ HX2
  iintro HX2
  iapply (wp_load_at c (n := 10) (hn := rfl) (off' := ![(0 : Fin 4).val, 0, 0]) rfl (slot_in 64 256 0)) $$ H10
  iintro H10
  iapply (wp_store_at c (n := 10) (hn := rfl) (off' := ![(0 : Fin 4).val, 0, 0]) rfl (slot_in 64 256 0) (WKS I c) (rd_WKS I c 0)) $$ H10
  iintro H10
  iapply (wp_load_in c (n := 3) (hn := rfl) (off' := ![0, 256 * (0 : Fin 4).val]) rfl (col_off 0)) $$ HX3
  iintro HX3
  iapply (wp_load_at c (n := 11) (hn := rfl) (off' := ![(0 : Fin 4).val, 0, 0]) rfl (slot_in 64 256 0)) $$ H20
  iintro H20
  iapply (wp_store_at c (n := 11) (hn := rfl) (off' := ![(0 : Fin 4).val, 0, 0]) rfl (slot_in 64 256 0) (WVS I c) (rd_WVS I c 0)) $$ H20
  iintro H20
  iapply (wp_load_in c (n := 2) (hn := rfl) (off' := ![0, 256 * (1 : Fin 4).val]) rfl (col_off 1)) $$ HX2
  iintro HX2
  iapply (wp_load_at c (n := 10) (hn := rfl) (off' := ![(1 : Fin 4).val, 0, 0]) rfl (slot_in 64 256 1)) $$ H11
  iintro H11
  iapply (wp_store_at c (n := 10) (hn := rfl) (off' := ![(1 : Fin 4).val, 0, 0]) rfl (slot_in 64 256 1) (WKS I c) (rd_WKS I c 1)) $$ H11
  iintro H11
  iapply (wp_load_in c (n := 3) (hn := rfl) (off' := ![0, 256 * (1 : Fin 4).val]) rfl (col_off 1)) $$ HX3
  iintro HX3
  iapply (wp_load_at c (n := 11) (hn := rfl) (off' := ![(1 : Fin 4).val, 0, 0]) rfl (slot_in 64 256 1)) $$ H21
  iintro H21
  iapply (wp_store_at c (n := 11) (hn := rfl) (off' := ![(1 : Fin 4).val, 0, 0]) rfl (slot_in 64 256 1) (WVS I c) (rd_WVS I c 1)) $$ H21
  iintro H21
  iapply (wp_load_in c (n := 2) (hn := rfl) (off' := ![0, 256 * (2 : Fin 4).val]) rfl (col_off 2)) $$ HX2
  iintro HX2
  iapply (wp_load_at c (n := 10) (hn := rfl) (off' := ![(2 : Fin 4).val, 0, 0]) rfl (slot_in 64 256 2)) $$ H12
  iintro H12
  iapply (wp_done c rfl)
  iapply Hk
  isplitl [Hc]; · iexact Hc
  isplitl [HX2]; · iexact HX2
  isplitl [HX3]; · iexact HX3
  isplitl [H10 H11 H12]
  · isplitl [H10]; · iexact H10
    isplitl [H11]; · iexact H11
    iexact H12
  isplitl [H20]; · iexact H20
  iexact H21

theorem part15_spec (f1 f2 f3 f4 : Vec F S4x64x256 .bf16) {Q : _ → sProp 𝕄} :
    iprop(X2 I c ∗ X3 I c ∗ (sl1 c 0 (WKS I c) ∗ sl1 c 1 (WKS I c) ∗ sl1 c 2 f1 ∗ sl1 c 3 f1) ∗ (sl2 c 0 (WVS I c) ∗ sl2 c 1 (WVS I c) ∗ sl2 c 2 f2 ∗ sl2 c 3 f2)
        ∗ sl3 c (yc c) f3 ∗ sl4 c (yc c) f4)
      ⊢ iprop((iprop(X2 I c ∗ X3 I c ∗ (sl1 c (yc c) (WKS I c) ∗ on c 0 (sl1 c 0 (WKS I c)) ∗ on c 1 (sl1 c 1 (WKS I c)) ∗ on c 2 (sl1 c 2 (WKS I c)) ∗ on c 3 (sl1 c 3 (WKS I c)))
            ∗ (sl2 c (yc c) (WVS I c) ∗ on c 0 (sl2 c 0 (WVS I c)) ∗ on c 1 (sl2 c 1 (WVS I c)) ∗ on c 2 (sl2 c 2 (WVS I c)) ∗ on c 3 (sl2 c 3 (WVS I c)))
            ∗ sl3 c (yc c) (WK I c) ∗ sl4 c (yc c) f4)
          -∗ Q ⟨k0_pay14 (wvS I c (yc c)), rd (slotR 64 256 (yc c)) f4⟩)
        -∗ WP c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (w5 c) (k0_pay8 (rd (colR 64 2) (I c).wuk)) (rd (slotR 64 256 2) f1)) Q) := by
  have e1 := own_split4 c (fun p => sl1 (F := F) c p (WKS I c))
  have e2 := own_split4 c (fun p => sl2 (F := F) c p (WVS I c))
  rw [k0_part15_eq_skeleton]; unfold k0_part15_skel
  simp only [Prog.lift, Prog.bind_op, Prog.bind_ret, Prog.pure_eq_ret, WP]
  iintro ⟨HX2, HX3, ⟨H10, H11, H12, H13⟩, ⟨H20, H21, H22, H23⟩, H3, H4⟩ Hk
  iapply (wp_store_at c (n := 10) (hn := rfl) (off' := ![(2 : Fin 4).val, 0, 0]) rfl (slot_in 64 256 2) (WKS I c) (rd_WKS I c 2)) $$ H12
  iintro H12
  iapply (wp_load_in c (n := 3) (hn := rfl) (off' := ![0, 256 * (2 : Fin 4).val]) rfl (col_off 2)) $$ HX3
  iintro HX3
  iapply (wp_load_at c (n := 11) (hn := rfl) (off' := ![(2 : Fin 4).val, 0, 0]) rfl (slot_in 64 256 2)) $$ H22
  iintro H22
  iapply (wp_store_at c (n := 11) (hn := rfl) (off' := ![(2 : Fin 4).val, 0, 0]) rfl (slot_in 64 256 2) (WVS I c) (rd_WVS I c 2)) $$ H22
  iintro H22
  iapply (wp_load_in c (n := 2) (hn := rfl) (off' := ![0, 256 * (3 : Fin 4).val]) rfl (col_off 3)) $$ HX2
  iintro HX2
  iapply (wp_load_at c (n := 10) (hn := rfl) (off' := ![(3 : Fin 4).val, 0, 0]) rfl (slot_in 64 256 3)) $$ H13
  iintro H13
  iapply (wp_store_at c (n := 10) (hn := rfl) (off' := ![(3 : Fin 4).val, 0, 0]) rfl (slot_in 64 256 3) (WKS I c) (rd_WKS I c 3)) $$ H13
  iintro H13
  iapply (wp_load_in c (n := 3) (hn := rfl) (off' := ![0, 256 * (3 : Fin 4).val]) rfl (col_off 3)) $$ HX3
  iintro HX3
  iapply (wp_load_at c (n := 11) (hn := rfl) (off' := ![(3 : Fin 4).val, 0, 0]) rfl (slot_in 64 256 3)) $$ H23
  iintro H23
  iapply (wp_store_at c (n := 11) (hn := rfl) (off' := ![(3 : Fin 4).val, 0, 0]) rfl (slot_in 64 256 3) (WVS I c) (rd_WVS I c 3)) $$ H23
  iintro H23
  ihave H1 := (Entails.of_eq e1) $$ [H10 H11 H12 H13]
  · isplitl [H10]; · iexact H10
    isplitl [H11]; · iexact H11
    isplitl [H12]; · iexact H12
    iexact H13
  ihave H2 := (Entails.of_eq e2) $$ [H20 H21 H22 H23]
  · isplitl [H20]; · iexact H20
    isplitl [H21]; · iexact H21
    isplitl [H22]; · iexact H22
    iexact H23
  icases H1 with ⟨H1, H1'⟩
  icases H2 with ⟨H2, H2'⟩
  iapply (wp_load_at c (n := 10) (hn := rfl) (at3 c (k0_off2_eq c)) (slot_in 64 256 (yc c))) $$ H1
  iintro H1
  iapply (wp_load_at c (n := 12) (hn := rfl) (at3 c (k0_off2_eq c)) (slot_in 64 256 (yc c))) $$ H3
  iintro H3
  iapply (wp_store_at c (n := 12) (hn := rfl) (at3 c (k0_off2_eq c)) (slot_in 64 256 (yc c)) (WK I c) ((rd_WK I c (yc c)).trans (by rw [pr_yc, pay13_id]; exact (rd_WKS I c (yc c)).symm))) $$ H3
  iintro H3
  iapply (wp_load_at c (n := 11) (hn := rfl) (at3 c (k0_off2_eq c)) (slot_in 64 256 (yc c))) $$ H2
  iintro H2
  iapply (wp_load_at c (n := 13) (hn := rfl) (at3 c (k0_off2_eq c)) (slot_in 64 256 (yc c))) $$ H4
  iintro H4
  iapply (wp_done c (b := ⟨k0_pay14 (wvS I c (yc c)), rd (slotR 64 256 (yc c)) f4⟩) (by rw [← rd_WVS]))
  iapply Hk
  isplitl [HX2]; · iexact HX2
  isplitl [HX3]; · iexact HX3
  isplitl [H1 H1']
  · isplitl [H1]; · iexact H1
    iexact H1'
  isplitl [H2 H2']
  · isplitl [H2]; · iexact H2
    iexact H2'
  isplitl [H3]; · iexact H3
  iexact H4

end Parts

end Cert.Mla
end
-- ==== Proof.Guarded.lean ====
/-
The groups of transfers and of waits the kernel guards, one group for each peer.
-/
module

public import proofs.«01_k».proof.Proof.Parts1

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (I : Dev nD → Ins F) (K : Dev nD × Fin 41 → ℕ)

section Steps
variable (c : Dev nD) {α : Type} {Q : α → sProp 𝕄} {p : Fin 4} {P : Prop} [Decidable P] (hP : P ↔ p ≠ yc c) (l : List Ev)
include hP

/-! ## The guarded groups of transfers and waits -/

abbrev crdX (k : Chan) (p : Fin 4) : sProp 𝕄 := on c p (credX c false k p)

/-- The three transfers to one peer: the compressed activations, the keys' columns, the values' columns. -/
theorem send3_step
    {n1 : P → Dev nD} (hn1 : ∀ h, n1 h = pr c p) {s1 r1 : P → DmaSem sig} (hs1 : ∀ h, s1 h = xs false 0 p) (hr1 : ∀ h, r1 h = xs true 0 (yc c))
    {o1 : Fin 3 → ℕ} (ho1 : o1 = ![(yc c).val, 0, 0])
    {i1 : P → ∀ a, o1 a + S1x512x64.size a ≤ S4x512x64.size a} {i1' : P → ∀ a, o1 a + S1x512x64.size a ≤ S4x512x64.size a}
    {sc1 : ∀ h, (cV (i1' h) : Memref sig (Dev.tc (n1 h) : Thread nD τ).2.kind .vmem _ _).view.ref.isScScratch = false}
    {we1 : ∀ h, (cV (i1 h)).view.WordExact} {wd1 : ∀ h, (cV (i1' h)).view.WordExact}
    {ty1 : ∀ h, DmaTarget.Typed .vmem (.dma (r1 h)) (.remote (Dev.tc (n1 h) : Thread nD τ) (cV (i1' h)) (.dma (s1 h)) (sc1 h))}
    {n2 : P → Dev nD} (hn2 : ∀ h, n2 h = pr c p) {s2 r2 : P → DmaSem sig} (hs2 : ∀ h, s2 h = xs false 1 p) (hr2 : ∀ h, r2 h = xs true 1 (yc c))
    {o2 o2' : Fin 3 → ℕ} (ho2 : o2 = ![p.val, 0, 0]) (ho2' : o2' = ![(yc c).val, 0, 0])
    {i2 : P → ∀ a, o2 a + S1x64x256.size a ≤ S4x64x256.size a} {i2' : P → ∀ a, o2' a + S1x64x256.size a ≤ S4x64x256.size a}
    {sc2 : ∀ h, (wV (Memref.whole cc0_scratch3) (i2' h) : Memref sig (Dev.tc (n2 h) : Thread nD τ).2.kind .vmem _ _).view.ref.isScScratch = false}
    {we2 : ∀ h, (wV (Memref.whole cc0_scratch1) (i2 h)).view.WordExact} {wd2 : ∀ h, (wV (Memref.whole cc0_scratch3) (i2' h)).view.WordExact}
    {ty2 : ∀ h, DmaTarget.Typed .vmem (.dma (r2 h)) (.remote (Dev.tc (n2 h) : Thread nD τ) (wV (Memref.whole cc0_scratch3) (i2' h)) (.dma (s2 h)) (sc2 h))}
    {n3 : P → Dev nD} (hn3 : ∀ h, n3 h = pr c p) {s3 r3 : P → DmaSem sig} (hs3 : ∀ h, s3 h = xs false 2 p) (hr3 : ∀ h, r3 h = xs true 2 (yc c))
    {o3 o3' : Fin 3 → ℕ} (ho3 : o3 = ![p.val, 0, 0]) (ho3' : o3' = ![(yc c).val, 0, 0])
    {i3 : P → ∀ a, o3 a + S1x64x256.size a ≤ S4x64x256.size a} {i3' : P → ∀ a, o3' a + S1x64x256.size a ≤ S4x64x256.size a}
    {sc3 : ∀ h, (wV (Memref.whole cc0_scratch4) (i3' h) : Memref sig (Dev.tc (n3 h) : Thread nD τ).2.kind .vmem _ _).view.ref.isScScratch = false}
    {we3 : ∀ h, (wV (Memref.whole cc0_scratch2) (i3 h)).view.WordExact} {wd3 : ∀ h, (wV (Memref.whole cc0_scratch4) (i3' h)).view.WordExact}
    {ty3 : ∀ h, DmaTarget.Typed .vmem (.dma (r3 h)) (.remote (Dev.tc (n3 h) : Thread nD τ) (wV (Memref.whole cc0_scratch4) (i3' h)) (.dma (s3 h)) (sc3 h))}
    {k : Prog (TpuEff nD τ sig (Elt F) Λ₀ .tc) α} {Q : α → sProp 𝕄} :
    iprop(recs I K ∗ ow c (tot c (ev3 p l)) ∗ sendPre I c 0 p ∗ sendPre I c 1 p ∗ sendPre I c 2 p)
      ⊢ iprop((iprop(ow c (tot c l) ∗ crdX c 0 p ∗ crdX c 1 p ∗ crdX c 2 p) -∗ WP c k Q)
          -∗ WP c (if h : P then .op (.enqueueDma (cV (i1 h)) (.remote (Dev.tc (n1 h) : Thread nD τ) (cV (i1' h)) (.dma (s1 h)) (sc1 h)) (.dma (r1 h)) (we1 h) (wd1 h) (ty1 h)) fun _ => .op (.enqueueDma (wV (Memref.whole cc0_scratch1) (i2 h)) (.remote (Dev.tc (n2 h) : Thread nD τ) (wV (Memref.whole cc0_scratch3) (i2' h)) (.dma (s2 h)) (sc2 h)) (.dma (r2 h)) (we2 h) (wd2 h) (ty2 h)) fun _ => .op (.enqueueDma (wV (Memref.whole cc0_scratch2) (i3 h)) (.remote (Dev.tc (n3 h) : Thread nD τ) (wV (Memref.whole cc0_scratch4) (i3' h)) (.dma (s3 h)) (sc3 h)) (.dma (r3 h)) (we3 h) (wd3 h) (ty3 h)) fun _ => k else k) Q) := by
  refine guard_step c hP (fun h hp => ?_) fun hp => ?_
  · iintro ⟨#HR, HO, H1, H2, H3⟩ Hk
    iapply (send_c I K c hp _ (hn1 h) (hs1 h) (hr1 h) ho1) $$ [HO H1]
    · isplitr; · iexact HR
      isplitl [HO]; · iexact HO
      iexact H1
    iintro ⟨HO, H1⟩
    iapply (send_k I K c hp _ (hn2 h) (hs2 h) (hr2 h) ho2 ho2') $$ [HO H2]
    · isplitr; · iexact HR
      isplitl [HO]; · iexact HO
      iexact H2
    iintro ⟨HO, H2⟩
    iapply (send_v I K c hp _ (hn3 h) (hs3 h) (hr3 h) ho3 ho3') $$ [HO H3]
    · isplitr; · iexact HR
      isplitl [HO]; · iexact HO
      iexact H3
    iintro ⟨HO, H3⟩
    iapply Hk
    isplitl [HO]; · iexact HO
    isplitl [H1]; · iexact H1
    isplitl [H2]; · iexact H2
    iexact H3
  · iintro ⟨HO, H1, H2, H3⟩
    ihave H := (send_own I c hp 0 _) $$ [HO H1]
    · isplitl [HO]; · iexact HO
      iexact H1
    icases H with ⟨HO, H1⟩
    ihave H := (send_own I c hp 1 _) $$ [HO H2]
    · isplitl [HO]; · iexact HO
      iexact H2
    icases H with ⟨HO, H2⟩
    ihave H := (send_own I c hp 2 _) $$ [HO H3]
    · isplitl [HO]; · iexact HO
      iexact H3
    icases H with ⟨HO, H3⟩
    isplitl [HO]; · iexact HO
    isplitl [H1]; · iexact H1
    isplitl [H2]; · iexact H2
    iexact H3

/-- The transfer of one half of the device's slot of the output buffer to one peer. -/
theorem sendo0_step
    {n4 : P → Dev nD} (hn4 : ∀ h, n4 h = pr c p) {s4 r4 : P → DmaSem sig} (hs4 : ∀ h, s4 h = xs false 3 p) (hr4 : ∀ h, r4 h = xs true 3 (yc c))
    {o4 : Fin 3 → ℕ} (ho4 : o4 = ![(yc c).val, 0, 0])
    {i4 : P → ∀ a, o4 a + S1x256x256.size a ≤ S4x512x256.size a} {i4' : P → ∀ a, o4 a + S1x256x256.size a ≤ S4x512x256.size a}
    {sc4 : ∀ h, (oV (i4' h) : Memref sig (Dev.tc (n4 h) : Thread nD τ).2.kind .vmem _ _).view.ref.isScScratch = false}
    {we4 : ∀ h, (oV (i4 h)).view.WordExact} {wd4 : ∀ h, (oV (i4' h)).view.WordExact}
    {ty4 : ∀ h, DmaTarget.Typed .vmem (.dma (r4 h)) (.remote (Dev.tc (n4 h) : Thread nD τ) (oV (i4' h)) (.dma (s4 h)) (sc4 h))}
    {k : Prog (TpuEff nD τ sig (Elt F) Λ₀ .tc) α} {Q : α → sProp 𝕄} :
    iprop(recs I K ∗ ow c (tot c ((some 3, p) :: l)) ∗ sendPre I c 3 p)
      ⊢ iprop((iprop(ow c (tot c l) ∗ crdX c 3 p) -∗ WP c k Q) -∗ WP c (if h : P then .op (.enqueueDma (oV (i4 h)) (.remote (Dev.tc (n4 h) : Thread nD τ) (oV (i4' h)) (.dma (s4 h)) (sc4 h)) (.dma (r4 h)) (we4 h) (wd4 h) (ty4 h)) fun _ => k else k) Q) :=
  guard_step c hP (fun h hp => send_o0 I K c hp _ (hn4 h) (hs4 h) (hr4 h) ho4 (kk := fun _ => k)) fun hp => send_own I c hp 3 _

theorem sendo1_step
    {n4 : P → Dev nD} (hn4 : ∀ h, n4 h = pr c p) {s4 r4 : P → DmaSem sig} (hs4 : ∀ h, s4 h = xs false 4 p) (hr4 : ∀ h, r4 h = xs true 4 (yc c))
    {o4 : Fin 3 → ℕ} (ho4 : o4 = ![(yc c).val, 256, 0])
    {i4 : P → ∀ a, o4 a + S1x256x256.size a ≤ S4x512x256.size a} {i4' : P → ∀ a, o4 a + S1x256x256.size a ≤ S4x512x256.size a}
    {sc4 : ∀ h, (oV (i4' h) : Memref sig (Dev.tc (n4 h) : Thread nD τ).2.kind .vmem _ _).view.ref.isScScratch = false}
    {we4 : ∀ h, (oV (i4 h)).view.WordExact} {wd4 : ∀ h, (oV (i4' h)).view.WordExact}
    {ty4 : ∀ h, DmaTarget.Typed .vmem (.dma (r4 h)) (.remote (Dev.tc (n4 h) : Thread nD τ) (oV (i4' h)) (.dma (s4 h)) (sc4 h))}
    {k : Prog (TpuEff nD τ sig (Elt F) Λ₀ .tc) α} {Q : α → sProp 𝕄} :
    iprop(recs I K ∗ ow c (tot c ((some 4, p) :: l)) ∗ sendPre I c 4 p)
      ⊢ iprop((iprop(ow c (tot c l) ∗ crdX c 4 p) -∗ WP c k Q) -∗ WP c (if h : P then .op (.enqueueDma (oV (i4 h)) (.remote (Dev.tc (n4 h) : Thread nD τ) (oV (i4' h)) (.dma (s4 h)) (sc4 h)) (.dma (r4 h)) (we4 h) (wd4 h) (ty4 h)) fun _ => k else k) Q) :=
  guard_step c hP (fun h hp => send_o1 I K c hp _ (hn4 h) (hs4 h) (hr4 h) ho4 (kk := fun _ => k)) fun hp => send_own I c hp 4 _

/-- One guarded wait. -/
theorem wait1_step (b : Bool) (j : Chan) (hl : ∀ e ∈ l, lvl (.dma (xs b j p)) < evLv e)
    {sm : P → DmaSem sig} (hsm : ∀ h, sm h = xs b j p) {κ' : Kind} {r : Ref sig κ'} {s : Shape} {e : EltTy} (hN : r.dmaCredit s e = N j)
    {hk : P → ((c : Thread nD τ).2 = .tc ∨ r.HasMemref s e)}
    {k : Prog (TpuEff nD τ sig (Elt F) Λ₀ .tc) α} {Q : α → sProp 𝕄} :
    iprop(recs I K ∗ ow c (tot c l) ∗ waitPre c b j p)
      ⊢ iprop((iprop(ow c (tot c l) ∗ waitPost I c b j p) -∗ WP c k Q)
          -∗ WP c (if h : P then .op (.waitDma (sm h) r s e (hk h)) fun _ => k else k) Q) :=
  guard_step c hP (fun h hp => wait_peer I K c hp b j l hl (hsm h) hN (kk := fun _ => k))
    fun hp => by iintro ⟨HO, H⟩; isplitl [HO]; · iexact HO
                 iapply (wait_own I c hp b j); iexact H

/-- The three waits for one peer's transfers. -/
theorem wait3_step (hl : ∀ j : Chan, j.val < 3 → ∀ e ∈ l, lvl (.dma (xs true j p)) < evLv e)
    {s1 s2 s3 : P → DmaSem sig} (h1 : ∀ h, s1 h = xs true 0 p) (h2 : ∀ h, s2 h = xs true 1 p) (h3 : ∀ h, s3 h = xs true 2 p)
    {κ1 κ2 κ3 : Kind} {r1 : Ref sig κ1} {r2 : Ref sig κ2} {r3 : Ref sig κ3} {t1 t2 t3 : Shape} {e1 e2 e3 : EltTy}
    (hN1 : r1.dmaCredit t1 e1 = N 0) (hN2 : r2.dmaCredit t2 e2 = N 1) (hN3 : r3.dmaCredit t3 e3 = N 2)
    {k1 : P → ((c : Thread nD τ).2 = .tc ∨ r1.HasMemref t1 e1)} {k2 : P → ((c : Thread nD τ).2 = .tc ∨ r2.HasMemref t2 e2)}
    {k3 : P → ((c : Thread nD τ).2 = .tc ∨ r3.HasMemref t3 e3)}
    {k : Prog (TpuEff nD τ sig (Elt F) Λ₀ .tc) α} {Q : α → sProp 𝕄} :
    iprop(recs I K ∗ ow c (tot c l) ∗ waitPre c true 0 p ∗ waitPre c true 1 p ∗ waitPre c true 2 p)
      ⊢ iprop((iprop(ow c (tot c l) ∗ waitPost I c true 0 p ∗ waitPost I c true 1 p ∗ waitPost I c true 2 p) -∗ WP c k Q)
          -∗ WP c (if h : P then .op (.waitDma (s1 h) r1 t1 e1 (k1 h)) fun _ => .op (.waitDma (s2 h) r2 t2 e2 (k2 h)) fun _ =>
              .op (.waitDma (s3 h) r3 t3 e3 (k3 h)) fun _ => k else k) Q) := by
  refine guard_step c hP (fun h hp => ?_) fun hp => ?_
  · iintro ⟨#HR, HO, H1, H2, H3⟩ Hk
    iapply (wait_peer I K c hp true 0 l (hl 0 (by decide)) (h1 h) hN1) $$ [HO H1]
    · isplitr; · iexact HR
      isplitl [HO]; · iexact HO
      iexact H1
    iintro ⟨HO, H1⟩
    iapply (wait_peer I K c hp true 1 l (hl 1 (by decide)) (h2 h) hN2) $$ [HO H2]
    · isplitr; · iexact HR
      isplitl [HO]; · iexact HO
      iexact H2
    iintro ⟨HO, H2⟩
    iapply (wait_peer I K c hp true 2 l (hl 2 (by decide)) (h3 h) hN3) $$ [HO H3]
    · isplitr; · iexact HR
      isplitl [HO]; · iexact HO
      iexact H3
    iintro ⟨HO, H3⟩
    iapply Hk
    isplitl [HO]; · iexact HO
    isplitl [H1]; · iexact H1
    isplitl [H2]; · iexact H2
    iexact H3
  · iintro ⟨HO, H1, H2, H3⟩
    isplitl [HO]; · iexact HO
    isplitl [H1]; · iapply (wait_own I c hp true 0); iexact H1
    isplitl [H2]; · iapply (wait_own I c hp true 1); iexact H2
    iapply (wait_own I c hp true 2); iexact H3

/-- All five waits for one peer's reads of what was sent to it. -/
theorem wait5_step (hl : ∀ j : Chan, ∀ e ∈ l, lvl (.dma (xs false j p)) < evLv e)
    {s1 s2 s3 s4 s5 : P → DmaSem sig} (h1 : ∀ h, s1 h = xs false 0 p) (h2 : ∀ h, s2 h = xs false 1 p) (h3 : ∀ h, s3 h = xs false 2 p)
    (h4 : ∀ h, s4 h = xs false 3 p) (h5 : ∀ h, s5 h = xs false 4 p)
    {κ1 κ2 κ3 κ4 κ5 : Kind} {r1 : Ref sig κ1} {r2 : Ref sig κ2} {r3 : Ref sig κ3} {r4 : Ref sig κ4} {r5 : Ref sig κ5}
    {t1 t2 t3 t4 t5 : Shape} {e1 e2 e3 e4 e5 : EltTy}
    (hN1 : r1.dmaCredit t1 e1 = N 0) (hN2 : r2.dmaCredit t2 e2 = N 1) (hN3 : r3.dmaCredit t3 e3 = N 2)
    (hN4 : r4.dmaCredit t4 e4 = N 3) (hN5 : r5.dmaCredit t5 e5 = N 4)
    {k1 : P → ((c : Thread nD τ).2 = .tc ∨ r1.HasMemref t1 e1)} {k2 : P → ((c : Thread nD τ).2 = .tc ∨ r2.HasMemref t2 e2)}
    {k3 : P → ((c : Thread nD τ).2 = .tc ∨ r3.HasMemref t3 e3)} {k4 : P → ((c : Thread nD τ).2 = .tc ∨ r4.HasMemref t4 e4)}
    {k5 : P → ((c : Thread nD τ).2 = .tc ∨ r5.HasMemref t5 e5)}
    {k : Prog (TpuEff nD τ sig (Elt F) Λ₀ .tc) α} {Q : α → sProp 𝕄} :
    iprop(recs I K ∗ ow c (tot c l) ∗ waitPre c false 0 p ∗ waitPre c false 1 p ∗ waitPre c false 2 p ∗ waitPre c false 3 p ∗ waitPre c false 4 p)
      ⊢ iprop((iprop(ow c (tot c l) ∗ waitPost I c false 0 p ∗ waitPost I c false 1 p ∗ waitPost I c false 2 p
            ∗ waitPost I c false 3 p ∗ waitPost I c false 4 p) -∗ WP c k Q)
          -∗ WP c (if h : P then .op (.waitDma (s1 h) r1 t1 e1 (k1 h)) fun _ => .op (.waitDma (s2 h) r2 t2 e2 (k2 h)) fun _ =>
              .op (.waitDma (s3 h) r3 t3 e3 (k3 h)) fun _ => .op (.waitDma (s4 h) r4 t4 e4 (k4 h)) fun _ =>
              .op (.waitDma (s5 h) r5 t5 e5 (k5 h)) fun _ => k else k) Q) := by
  refine guard_step c hP (fun h hp => ?_) fun hp => ?_
  · iintro ⟨#HR, HO, H1, H2, H3, H4, H5⟩ Hk
    iapply (wait_peer I K c hp false 0 l (hl 0) (h1 h) hN1) $$ [HO H1]
    · isplitr; · iexact HR
      isplitl [HO]; · iexact HO
      iexact H1
    iintro ⟨HO, H1⟩
    iapply (wait_peer I K c hp false 1 l (hl 1) (h2 h) hN2) $$ [HO H2]
    · isplitr; · iexact HR
      isplitl [HO]; · iexact HO
      iexact H2
    iintro ⟨HO, H2⟩
    iapply (wait_peer I K c hp false 2 l (hl 2) (h3 h) hN3) $$ [HO H3]
    · isplitr; · iexact HR
      isplitl [HO]; · iexact HO
      iexact H3
    iintro ⟨HO, H3⟩
    iapply (wait_peer I K c hp false 3 l (hl 3) (h4 h) hN4) $$ [HO H4]
    · isplitr; · iexact HR
      isplitl [HO]; · iexact HO
      iexact H4
    iintro ⟨HO, H4⟩
    iapply (wait_peer I K c hp false 4 l (hl 4) (h5 h) hN5) $$ [HO H5]
    · isplitr; · iexact HR
      isplitl [HO]; · iexact HO
      iexact H5
    iintro ⟨HO, H5⟩
    iapply Hk
    isplitl [HO]; · iexact HO
    isplitl [H1]; · iexact H1
    isplitl [H2]; · iexact H2
    isplitl [H3]; · iexact H3
    isplitl [H4]; · iexact H4
    iexact H5
  · iintro ⟨HO, H1, H2, H3, H4, H5⟩
    isplitl [HO]; · iexact HO
    isplitl [H1]; · iapply (wait_own I c hp false 0); iexact H1
    isplitl [H2]; · iapply (wait_own I c hp false 1); iexact H2
    isplitl [H3]; · iapply (wait_own I c hp false 2); iexact H3
    isplitl [H4]; · iapply (wait_own I c hp false 3); iexact H4
    iapply (wait_own I c hp false 4); iexact H5

end Steps

end Cert.Mla
end
-- ==== Proof.Parts2.lean ====
/-
The middle of the body: the first exchanges, what they bring, the keys and the values.
-/
module

public import proofs.«01_k».proof.Proof.Guarded

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (I : Dev nD → Ins F) (K : Dev nD × Fin 41 → ℕ)

section Res
variable (c : Dev nD)

abbrev all4 (X : Fin 4 → sProp 𝕄) : sProp 𝕄 := iprop(X 0 ∗ X 1 ∗ X 2 ∗ X 3)

/-- The two duties of one transfer. -/
abbrev tkX (k : Chan) (p : Fin 4) : sProp 𝕄 := on c p (iprop(dutyTok ER (xC c false k p) 0 0 ∗ dutyTok ER (xC (pr c p) true k (yc c)) 0 0))
/-- Where it lands. -/
abbrev lndX (k : Chan) (p : Fin 4) : sProp 𝕄 := on c p (land (F := F) k (pr c p) (yc c))
/-- What it reads. -/
abbrev sntX (k : Chan) (p : Fin 4) : sProp 𝕄 := on c p (sent I k c p)

theorem mk_sendPre (k : Chan) (p : Fin 4) : iprop(tkX c k p ∗ lndX c k p ∗ sntX I c k p) ⊢ sendPre I c k p := by
  unfold sendPre tokX
  by_cases h : p = yc c
  · unfold tkX lndX sntX; rw [on_self h, on_self h, on_self h, sep_none, sep_none, on_self h]
  · simp only [on_peer h]
    iintro ⟨⟨H1, H2⟩, H3, H4⟩
    isplitr [H4]
    · isplitl [H1]; · iexact H1
      isplitl [H2]; · iexact H2
      iexact H3
    iexact H4

theorem deal (p : Fin 4) : on c p (barPay (F := F) c p) = iprop(lndX c 0 p ∗ lndX c 1 p ∗ lndX c 2 p ∗ lndX c 3 p ∗ lndX c 4 p) := by
  unfold barPay; rw [bigSep_5, on_sep, on_sep, on_sep, on_sep]

theorem lvl_in (p : Fin 4) (j : Chan) (hj : j.val < 3) : ∀ e ∈ evO, lvl (.dma (xs true j p)) < evLv e := by
  have h : ∀ e ∈ evO, 2 < evLv e := by decide
  intro e he
  rw [lvl_x, if_pos rfl, if_pos hj]; exact h e he

theorem cr_c : Ref.dmaCredit (cc0_scratch0 : Ref sig .tc) S512x64 .bf16 = N 0 := rfl
theorem cr_k : Ref.dmaCredit (cc0_scratch3 : Ref sig .tc) S64x256 .bf16 = N 1 := rfl
theorem cr_v : Ref.dmaCredit (cc0_scratch4 : Ref sig .tc) S64x256 .bf16 = N 2 := rfl

/-- The share at which device `c` reads slot `p`. -/
def sh (p : Fin 4) : PosShare TreeShare := if p = yc c then lf p else fullShare
abbrev rdC (p : Fin 4) : sProp 𝕄 := pts c cc0_scratch0 (slotR 512 64 p).set (sh c p) (CB I c)

theorem rdC_all : iprop(pts c cc0_scratch0 (slotR 512 64 (yc c)).set (lf (yc c)) (CB I c) ∗ all4 (fun p => on c p (recvd I 0 c p))) = all4 (rdC I c) := by
  have h := own_split4 c (rdC I c)
  refine Eq.trans ?_ h.symm
  have e : sh c (yc c) = lf (yc c) := if_pos rfl
  have e' : ∀ p, on c p (rdC I c p) = on c p (recvd I 0 c p) := fun p => on_of c p fun hp => by
    unfold rdC; rw [show sh c p = fullShare from if_neg hp]; rfl
  rw [e' 0, e' 1, e' 2, e' 3]
  unfold rdC; rw [e]
theorem sl3_all : iprop(sl3 c (yc c) (WK I c) ∗ all4 (fun p => on c p (recvd I 1 c p))) = all4 (fun p => sl3 c p (WK I c)) :=
  (own_split4 c (fun p => sl3 (F := F) c p (WK I c))).symm
theorem sl4_all : iprop(sl4 c (yc c) (WV I c) ∗ all4 (fun p => on c p (recvd I 2 c p))) = all4 (fun p => sl4 c p (WV I c)) :=
  (own_split4 c (fun p => sl4 (F := F) c p (WV I c))).symm

theorem col_in (A : ℕ) (q : Fin 4) : ∀ a, (![0, 256 * q.val] : Fin 2 → ℕ) a + (![A, 256] : Fin 2 → ℕ) a ≤ (![A, 1024] : Fin 2 → ℕ) a := by
  have := q.isLt
  intro a; fin_cases a
  · show 0 + A ≤ A; omega
  · show 256 * q.val + 256 ≤ 1024; omega
theorem col_in' (q : Fin 4) : ∀ a, (![0, 128 * q.val] : Fin 2 → ℕ) a + S1024x128.size a ≤ S1024x512.size a := by
  have := q.isLt
  intro a; fin_cases a
  · show 0 + 1024 ≤ 1024; omega
  · show 128 * q.val + 128 ≤ 512; omega

end Res

section Parts
variable (c : Dev nD)

theorem part16_spec (f4 : Vec F S4x64x256 .bf16) (v94 : Vec F S1x64x256 .bf16) {Q : _ → sProp 𝕄} :
    iprop(recs I K ∗ ow c (tot c evX) ∗ (cred (tallyAt (barC c) () 3) ∗ atPos ER (barC c) 0 ∅ 0)
        ∗ (all4 (tkX c 0) ∗ all4 (tkX c 1) ∗ all4 (tkX c 2)) ∗ (all4 (sntX I c 0) ∗ all4 (sntX I c 1) ∗ all4 (sntX I c 2))
        ∗ sl4 c (yc c) f4 ∗ X4 I c ∗ X5 I c ∗ X6 I c)
      ⊢ iprop((iprop(ow c (tot c evO) ∗ atPos ER (barC c) 1 ∅ 0 ∗ (all4 (crdX c 0) ∗ all4 (crdX c 1) ∗ all4 (crdX c 2))
            ∗ (all4 (lndX c 3) ∗ all4 (lndX c 4)) ∗ sl4 c (yc c) (WV I c) ∗ X4 I c ∗ X5 I c ∗ X6 I c)
          -∗ Q ⟨qv I c, qr I c, kr I c, Scalar.cmpi .ne (w5 c) 0#32⟩)
        -∗ WP c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (w2 c) (w5 c) (w8 c) (SemArray.scalar (sig.barrier 0 rfl)) (k0_pay1 (I c).x) (k0_pay14 (wvS I c (yc c))) v94) Q) := by
  rw [k0_part16_eq_skeleton]; unfold k0_part16_skel
  simp only [k0_part1_eq_skeleton, k0_part1_skel, k0_part2_eq_skeleton, k0_part2_skel, k0_part3_eq_skeleton, k0_part3_skel, k0_part4_eq_skeleton, k0_part4_skel,
    semSignalWord, semWaitWord, Prog.lift, Prog.bind_op, Prog.bind_ret, Prog.pure_eq_ret, WP]
  iintro ⟨#HR, HO, ⟨HB, HP⟩, ⟨⟨T00, T01, T02, T03⟩, ⟨T10, T11, T12, T13⟩, ⟨T20, T21, T22, T23⟩⟩, ⟨⟨S00, S01, S02, S03⟩, ⟨S10, S11, S12, S13⟩, ⟨S20, S21, S22, S23⟩⟩, H4, HX4, HX5, HX6⟩ Hk
  iapply (wp_store_at c (n := 13) (hn := rfl) (at3 c (k0_off2_eq c)) (slot_in 64 256 (yc c)) (WV I c) ((rd_WV I c (yc c)).trans (by rw [pr_yc, pay15_id]))) $$ H4
  iintro H4
  iapply (wait_bar I K c evX (by decide) _ rfl) $$ [HO HB HP]
  · isplitr; · iexact HR
    isplitl [HO]; · iexact HO
    isplitl [HB]; · iexact HB
    iexact HP
  rw [deal, deal, deal, deal]
  iintro ⟨HO, ⟨⟨L00, L10, L20, L30, L40⟩, ⟨L01, L11, L21, L31, L41⟩, ⟨L02, L12, L22, L32, L42⟩, ⟨L03, L13, L23, L33, L43⟩⟩, HP⟩
  iapply (send3_step I K c (p := 0) (gd_iff c 0) (ev3 1 (ev3 2 (ev3 3 evO)))
      (fun h => dev_at c 0 (k0_dev5_eq c) (k0_dev5_lt c h)) (fun h => sem_cs 0 rfl inb_S4_S1_0) (fun h => sem_cr (yc c) (k0_off3_eq c) (k0_off3_inb c h)) (at3 c (k0_off4_eq c))
      (fun h => dev_at c 0 (k0_dev6_eq c) (k0_dev6_lt c h)) (fun h => sem_ks 0 rfl inb_S4_S1_0) (fun h => sem_kr (yc c) (k0_off3_eq c) (k0_off3_inb c h)) (o2 := ![0, 0, 0]) rfl (at3 c (k0_off5_eq c))
      (fun h => dev_at c 0 (k0_dev7_eq c) (k0_dev7_lt c h)) (fun h => sem_vs 0 rfl inb_S4_S1_0) (fun h => sem_vr (yc c) (k0_off3_eq c) (k0_off3_inb c h)) (o3 := ![0, 0, 0]) rfl (at3 c (k0_off5_eq c))) $$ [HO T00 T10 T20 S00 S10 S20 L00 L10 L20]
  · isplitr; · iexact HR
    isplitl [HO]; · iexact HO
    isplitl [T00 S00 L00]
    · iapply (mk_sendPre I c 0 0)
      isplitl [T00]; · iexact T00
      isplitl [L00]; · iexact L00
      iexact S00
    isplitl [T10 S10 L10]
    · iapply (mk_sendPre I c 1 0)
      isplitl [T10]; · iexact T10
      isplitl [L10]; · iexact L10
      iexact S10
    iapply (mk_sendPre I c 2 0)
    isplitl [T20]; · iexact T20
    isplitl [L20]; · iexact L20
    iexact S20
  iintro ⟨HO, C00, C10, C20⟩
  iapply (send3_step I K c (p := 1) (gd_iff c 1) (ev3 2 (ev3 3 evO))
      (fun h => dev_at c 1 (k0_dev8_eq c) (k0_dev8_lt c h)) (fun h => sem_cs 1 rfl inb_S4_S1_1) (fun h => sem_cr (yc c) (k0_off6_eq c) (k0_off6_inb c h)) (at3 c (k0_off7_eq c))
      (fun h => dev_at c 1 (k0_dev9_eq c) (k0_dev9_lt c h)) (fun h => sem_ks 1 rfl inb_S4_S1_1) (fun h => sem_kr (yc c) (k0_off6_eq c) (k0_off6_inb c h)) (o2 := ![1, 0, 0]) rfl (at3 c (k0_off8_eq c))
      (fun h => dev_at c 1 (k0_dev10_eq c) (k0_dev10_lt c h)) (fun h => sem_vs 1 rfl inb_S4_S1_1) (fun h => sem_vr (yc c) (k0_off6_eq c) (k0_off6_inb c h)) (o3 := ![1, 0, 0]) rfl (at3 c (k0_off8_eq c))) $$ [HO T01 T11 T21 S01 S11 S21 L01 L11 L21]
  · isplitr; · iexact HR
    isplitl [HO]; · iexact HO
    isplitl [T01 S01 L01]
    · iapply (mk_sendPre I c 0 1)
      isplitl [T01]; · iexact T01
      isplitl [L01]; · iexact L01
      iexact S01
    isplitl [T11 S11 L11]
    · iapply (mk_sendPre I c 1 1)
      isplitl [T11]; · iexact T11
      isplitl [L11]; · iexact L11
      iexact S11
    iapply (mk_sendPre I c 2 1)
    isplitl [T21]; · iexact T21
    isplitl [L21]; · iexact L21
    iexact S21
  iintro ⟨HO, C01, C11, C21⟩
  iapply (send3_step I K c (p := 2) (gd_iff c 2) (ev3 3 evO)
      (fun h => dev_at c 2 (k0_dev11_eq c) (k0_dev11_lt c h)) (fun h => sem_cs 2 rfl inb_S4_S1_2) (fun h => sem_cr (yc c) (k0_off9_eq c) (k0_off9_inb c h)) (at3 c (k0_off10_eq c))
      (fun h => dev_at c 2 (k0_dev12_eq c) (k0_dev12_lt c h)) (fun h => sem_ks 2 rfl inb_S4_S1_2) (fun h => sem_kr (yc c) (k0_off9_eq c) (k0_off9_inb c h)) (o2 := ![2, 0, 0]) rfl (at3 c (k0_off11_eq c))
      (fun h => dev_at c 2 (k0_dev13_eq c) (k0_dev13_lt c h)) (fun h => sem_vs 2 rfl inb_S4_S1_2) (fun h => sem_vr (yc c) (k0_off9_eq c) (k0_off9_inb c h)) (o3 := ![2, 0, 0]) rfl (at3 c (k0_off11_eq c))) $$ [HO T02 T12 T22 S02 S12 S22 L02 L12 L22]
  · isplitr; · iexact HR
    isplitl [HO]; · iexact HO
    isplitl [T02 S02 L02]
    · iapply (mk_sendPre I c 0 2)
      isplitl [T02]; · iexact T02
      isplitl [L02]; · iexact L02
      iexact S02
    isplitl [T12 S12 L12]
    · iapply (mk_sendPre I c 1 2)
      isplitl [T12]; · iexact T12
      isplitl [L12]; · iexact L12
      iexact S12
    iapply (mk_sendPre I c 2 2)
    isplitl [T22]; · iexact T22
    isplitl [L22]; · iexact L22
    iexact S22
  iintro ⟨HO, C02, C12, C22⟩
  iapply (send3_step I K c (p := 3) (gd_iff c 3) evO
      (fun h => dev_at c 3 (k0_dev14_eq c) (k0_dev14_lt c h)) (fun h => sem_cs 3 rfl inb_S4_S1_3) (fun h => sem_cr (yc c) (k0_off12_eq c) (k0_off12_inb c h)) (at3 c (k0_off13_eq c))
      (fun h => dev_at c 3 (k0_dev15_eq c) (k0_dev15_lt c h)) (fun h => sem_ks 3 rfl inb_S4_S1_3) (fun h => sem_kr (yc c) (k0_off12_eq c) (k0_off12_inb c h)) (o2 := ![3, 0, 0]) rfl (at3 c (k0_off14_eq c))
      (fun h => dev_at c 3 (k0_dev16_eq c) (k0_dev16_lt c h)) (fun h => sem_vs 3 rfl inb_S4_S1_3) (fun h => sem_vr (yc c) (k0_off12_eq c) (k0_off12_inb c h)) (o3 := ![3, 0, 0]) rfl (at3 c (k0_off14_eq c))) $$ [HO T03 T13 T23 S03 S13 S23 L03 L13 L23]
  · isplitr; · iexact HR
    isplitl [HO]; · iexact HO
    isplitl [T03 S03 L03]
    · iapply (mk_sendPre I c 0 3)
      isplitl [T03]; · iexact T03
      isplitl [L03]; · iexact L03
      iexact S03
    isplitl [T13 S13 L13]
    · iapply (mk_sendPre I c 1 3)
      isplitl [T13]; · iexact T13
      isplitl [L13]; · iexact L13
      iexact S13
    iapply (mk_sendPre I c 2 3)
    isplitl [T23]; · iexact T23
    isplitl [L23]; · iexact L23
    iexact S23
  iintro ⟨HO, C03, C13, C23⟩
  iapply (wp_load_in c (n := 4) (hn := rfl) (off' := ![0, 256 * (yc c).val]) (k0_off15_eq c) (col_in 1024 (yc c))) $$ HX4
  iintro HX4
  iapply (wp_load_in c (n := 5) (hn := rfl) (off' := ![0, 128 * (yc c).val]) (k0_off16_eq c) (col_in' (yc c))) $$ HX5
  iintro HX5
  iapply (wp_load_all c zero2) $$ HX6
  iintro HX6
  iapply (wp_done c (b := ⟨qv I c, qr I c, kr I c, Scalar.cmpi .ne (w5 c) 0#32⟩) (by rfl))
  iapply Hk
  isplitl [HO]; · iexact HO
  isplitl [HP]; · iexact HP
  isplitl [C00 C01 C02 C03 C10 C11 C12 C13 C20 C21 C22 C23]
  · isplitl [C00 C01 C02 C03]
    · isplitl [C00]; · iexact C00
      isplitl [C01]; · iexact C01
      isplitl [C02]; · iexact C02
      iexact C03
    isplitl [C10 C11 C12 C13]
    · isplitl [C10]; · iexact C10
      isplitl [C11]; · iexact C11
      isplitl [C12]; · iexact C12
      iexact C13
    isplitl [C20]; · iexact C20
    isplitl [C21]; · iexact C21
    isplitl [C22]; · iexact C22
    iexact C23
  isplitl [L30 L31 L32 L33 L40 L41 L42 L43]
  · isplitl [L30 L31 L32 L33]
    · isplitl [L30]; · iexact L30
      isplitl [L31]; · iexact L31
      isplitl [L32]; · iexact L32
      iexact L33
    isplitl [L40]; · iexact L40
    isplitl [L41]; · iexact L41
    isplitl [L42]; · iexact L42
    iexact L43
  isplitl [H4]; · iexact H4
  isplitl [HX4]; · iexact HX4
  isplitl [HX5]; · iexact HX5
  iexact HX6

theorem part17_spec {Q : _ → sProp 𝕄} :
    iprop(recs I K ∗ ow c (tot c evO) ∗ (all4 (waitPre c true 0) ∗ all4 (waitPre c true 1) ∗ all4 (waitPre c true 2)) ∗ X7 I c
        ∗ pts c cc0_scratch0 (slotR 512 64 (yc c)).set (lf (yc c)) (CB I c) ∗ sl3 c (yc c) (WK I c) ∗ sl4 c (yc c) (WV I c))
      ⊢ iprop((iprop(ow c (tot c evO) ∗ (all4 (posX (F := F) c true 0) ∗ all4 (posX (F := F) c true 1) ∗ all4 (posX (F := F) c true 2)) ∗ X7 I c
            ∗ all4 (rdC I c) ∗ all4 (fun p => sl3 c p (WK I c)) ∗ all4 (fun p => sl4 c p (WV I c)))
          -∗ Q ⟨k0_pay19 (I c).wo, cf I c, k0_pay21 (wkS I (pr c 0) (yc c)), k0_pay22 (wkS I (pr c 1) (yc c))⟩)
        -∗ WP c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (w2 c) (w5 c) (w8 c) (Scalar.cmpi .ne (w5 c) 0#32)) Q) := by
  rw [k0_part17_eq_skeleton]; unfold k0_part17_skel
  simp only [k0_part5_eq_skeleton, k0_part5_skel, k0_part6_eq_skeleton, k0_part6_skel, k0_part7_eq_skeleton, k0_part7_skel, k0_part8_eq_skeleton, k0_part8_skel,
    Prog.lift, Prog.bind_op, Prog.bind_ret, Prog.pure_eq_ret, WP]
  iintro ⟨#HR, HO, ⟨⟨W00, W01, W02, W03⟩, ⟨W10, W11, W12, W13⟩, ⟨W20, W21, W22, W23⟩⟩, HX7, HC, H3, H4⟩ Hk
  iapply (wait3_step I K c (p := 0) (gd_iff c 0) evO (lvl_in 0) (fun h => sem_cr 0 rfl inb_S4_S1_0) (fun h => sem_kr 0 rfl inb_S4_S1_0) (fun h => sem_vr 0 rfl inb_S4_S1_0)
      cr_c cr_k cr_v) $$ [HO W00 W10 W20]
  · isplitr; · iexact HR
    isplitl [HO]; · iexact HO
    isplitl [W00]; · iexact W00
    isplitl [W10]; · iexact W10
    iexact W20
  iintro ⟨HO, ⟨R00, P00⟩, ⟨R10, P10⟩, ⟨R20, P20⟩⟩
  iapply (wait3_step I K c (p := 1) (gd_iff c 1) evO (lvl_in 1) (fun h => sem_cr 1 rfl inb_S4_S1_1) (fun h => sem_kr 1 rfl inb_S4_S1_1) (fun h => sem_vr 1 rfl inb_S4_S1_1)
      cr_c cr_k cr_v) $$ [HO W01 W11 W21]
  · isplitr; · iexact HR
    isplitl [HO]; · iexact HO
    isplitl [W01]; · iexact W01
    isplitl [W11]; · iexact W11
    iexact W21
  iintro ⟨HO, ⟨R01, P01⟩, ⟨R11, P11⟩, ⟨R21, P21⟩⟩
  iapply (wait3_step I K c (p := 2) (gd_iff c 2) evO (lvl_in 2) (fun h => sem_cr 2 rfl inb_S4_S1_2) (fun h => sem_kr 2 rfl inb_S4_S1_2) (fun h => sem_vr 2 rfl inb_S4_S1_2)
      cr_c cr_k cr_v) $$ [HO W02 W12 W22]
  · isplitr; · iexact HR
    isplitl [HO]; · iexact HO
    isplitl [W02]; · iexact W02
    isplitl [W12]; · iexact W12
    iexact W22
  iintro ⟨HO, ⟨R02, P02⟩, ⟨R12, P12⟩, ⟨R22, P22⟩⟩
  iapply (wait3_step I K c (p := 3) (gd_iff c 3) evO (lvl_in 3) (fun h => sem_cr 3 rfl inb_S4_S1_3) (fun h => sem_kr 3 rfl inb_S4_S1_3) (fun h => sem_vr 3 rfl inb_S4_S1_3)
      cr_c cr_k cr_v) $$ [HO W03 W13 W23]
  · isplitr; · iexact HR
    isplitl [HO]; · iexact HO
    isplitl [W03]; · iexact W03
    isplitl [W13]; · iexact W13
    iexact W23
  iintro ⟨HO, ⟨R03, P03⟩, ⟨R13, P13⟩, ⟨R23, P23⟩⟩
  ihave HC := (Entails.of_eq (rdC_all I c)) $$ [HC R00 R01 R02 R03]
  · isplitl [HC]; · iexact HC
    isplitl [R00]; · iexact R00
    isplitl [R01]; · iexact R01
    isplitl [R02]; · iexact R02
    iexact R03
  ihave H3 := (Entails.of_eq (sl3_all I c)) $$ [H3 R10 R11 R12 R13]
  · isplitl [H3]; · iexact H3
    isplitl [R10]; · iexact R10
    isplitl [R11]; · iexact R11
    isplitl [R12]; · iexact R12
    iexact R13
  ihave H4 := (Entails.of_eq (sl4_all I c)) $$ [H4 R20 R21 R22 R23]
  · isplitl [H4]; · iexact H4
    isplitl [R20]; · iexact R20
    isplitl [R21]; · iexact R21
    isplitl [R22]; · iexact R22
    iexact R23
  icases HC with ⟨HC0, HC1, HC2, HC3⟩
  icases H3 with ⟨H30, H31, H32, H33⟩
  iapply (wp_load_all c zero2) $$ HX7
  iintro HX7
  iapply (wp_load_at c (n := 9) (hn := rfl) (off' := ![(0 : Fin 4).val, 0, 0]) rfl (slot_in 512 64 0)) $$ HC0
  iintro HC0
  iapply (wp_load_at c (n := 9) (hn := rfl) (off' := ![(1 : Fin 4).val, 0, 0]) rfl (slot_in 512 64 1)) $$ HC1
  iintro HC1
  iapply (wp_load_at c (n := 9) (hn := rfl) (off' := ![(2 : Fin 4).val, 0, 0]) rfl (slot_in 512 64 2)) $$ HC2
  iintro HC2
  iapply (wp_load_at c (n := 9) (hn := rfl) (off' := ![(3 : Fin 4).val, 0, 0]) rfl (slot_in 512 64 3)) $$ HC3
  iintro HC3
  iapply (wp_load_at c (n := 12) (hn := rfl) (off' := ![(0 : Fin 4).val, 0, 0]) rfl (slot_in 64 256 0)) $$ H30
  iintro H30
  iapply (wp_load_at c (n := 12) (hn := rfl) (off' := ![(1 : Fin 4).val, 0, 0]) rfl (slot_in 64 256 1)) $$ H31
  iintro H31
  iapply (wp_done c (b := ⟨k0_pay19 (I c).wo, cf I c, k0_pay21 (wkS I (pr c 0) (yc c)), k0_pay22 (wkS I (pr c 1) (yc c))⟩)
    (by rw [← rd_WK, ← rd_WK]; unfold cf; rw [← rd_CB, ← rd_CB, ← rd_CB, ← rd_CB]))
  iapply Hk
  isplitl [HO]; · iexact HO
  isplitl [P00 P01 P02 P03 P10 P11 P12 P13 P20 P21 P22 P23]
  · isplitl [P00 P01 P02 P03]
    · isplitl [P00]; · iexact P00
      isplitl [P01]; · iexact P01
      isplitl [P02]; · iexact P02
      iexact P03
    isplitl [P10 P11 P12 P13]
    · isplitl [P10]; · iexact P10
      isplitl [P11]; · iexact P11
      isplitl [P12]; · iexact P12
      iexact P13
    isplitl [P20]; · iexact P20
    isplitl [P21]; · iexact P21
    isplitl [P22]; · iexact P22
    iexact P23
  isplitl [HX7]; · iexact HX7
  isplitl [HC0 HC1 HC2 HC3]
  · isplitl [HC0]; · iexact HC0
    isplitl [HC1]; · iexact HC1
    isplitl [HC2]; · iexact HC2
    iexact HC3
  isplitl [H30 H31 H32 H33]
  · isplitl [H30]; · iexact H30
    isplitl [H31]; · iexact H31
    isplitl [H32]; · iexact H32
    iexact H33
  iexact H4

theorem part18_spec {Q : _ → sProp 𝕄} :
    iprop(all4 (fun p => sl3 c p (WK I c)) ∗ all4 (fun p => sl4 c p (WV I c)))
      ⊢ iprop((iprop(all4 (fun p => sl3 c p (WK I c)) ∗ all4 (fun p => sl4 c p (WV I c)))
          -∗ Q ⟨kf I c, vf I c, k0_pay25 (kr I c), k0_pay26 (cf I c) (wvS I (pr c 0) (yc c)) (wvS I (pr c 1) (yc c)) (wvS I (pr c 2) (yc c)) (wvS I (pr c 3) (yc c)),
              k0_pay27 (qv I c) (qr I c) (kr I c) (cf I c) (k0_pay21 (wkS I (pr c 0) (yc c))) (k0_pay22 (wkS I (pr c 1) (yc c))) (wkS I (pr c 2) (yc c)) (wkS I (pr c 3) (yc c))⟩)
        -∗ WP c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (qv I c) (qr I c) (kr I c) (cf I c) (k0_pay21 (wkS I (pr c 0) (yc c))) (k0_pay22 (wkS I (pr c 1) (yc c)))) Q) := by
  rw [k0_part18_eq_skeleton]; unfold k0_part18_skel
  simp only [Prog.lift, Prog.bind_op, Prog.bind_ret, Prog.pure_eq_ret, WP]
  iintro ⟨⟨H30, H31, H32, H33⟩, H40, H41, H42, H43⟩ Hk
  iapply (wp_load_at c (n := 12) (hn := rfl) (off' := ![(2 : Fin 4).val, 0, 0]) rfl (slot_in 64 256 2)) $$ H32
  iintro H32
  iapply (wp_load_at c (n := 12) (hn := rfl) (off' := ![(3 : Fin 4).val, 0, 0]) rfl (slot_in 64 256 3)) $$ H33
  iintro H33
  iapply (wp_load_at c (n := 13) (hn := rfl) (off' := ![(0 : Fin 4).val, 0, 0]) rfl (slot_in 64 256 0)) $$ H40
  iintro H40
  iapply (wp_load_at c (n := 13) (hn := rfl) (off' := ![(1 : Fin 4).val, 0, 0]) rfl (slot_in 64 256 1)) $$ H41
  iintro H41
  iapply (wp_load_at c (n := 13) (hn := rfl) (off' := ![(2 : Fin 4).val, 0, 0]) rfl (slot_in 64 256 2)) $$ H42
  iintro H42
  iapply (wp_load_at c (n := 13) (hn := rfl) (off' := ![(3 : Fin 4).val, 0, 0]) rfl (slot_in 64 256 3)) $$ H43
  iintro H43
  iapply (wp_done c (b := ⟨kf I c, vf I c, k0_pay25 (kr I c), k0_pay26 (cf I c) (wvS I (pr c 0) (yc c)) (wvS I (pr c 1) (yc c)) (wvS I (pr c 2) (yc c)) (wvS I (pr c 3) (yc c)),
              k0_pay27 (qv I c) (qr I c) (kr I c) (cf I c) (k0_pay21 (wkS I (pr c 0) (yc c))) (k0_pay22 (wkS I (pr c 1) (yc c))) (wkS I (pr c 2) (yc c)) (wkS I (pr c 3) (yc c))⟩)
    (by unfold kf vf; rw [← rd_WV I c 0, ← rd_WV I c 1, ← rd_WV I c 2, ← rd_WV I c 3, ← rd_WK I c 2, ← rd_WK I c 3]))
  iapply Hk
  isplitl [H30 H31 H32 H33]
  · isplitl [H30]; · iexact H30
    isplitl [H31]; · iexact H31
    isplitl [H32]; · iexact H32
    iexact H33
  isplitl [H40]; · iexact H40
  isplitl [H41]; · iexact H41
  isplitl [H42]; · iexact H42
  iexact H43

end Parts

end Cert.Mla
end
-- ==== Proof.Parts3.lean ====
/-
The last parts of the body: the heads, the exchange of the output, the products with the output weights.
-/
module

public import proofs.«01_k».proof.Proof.Parts2

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (I : Dev nD → Ins F) (K : Dev nD × Fin 41 → ℕ)

section Res
variable (c : Dev nD)

/-- One head's piece of one half of the device's own slot of the output buffer. -/
abbrev hd (b : Fin 2) (h : Fin 4) (f : Vec F S4x512x256 .bf16) : sProp 𝕄 := pts c cc0_scratch5 (headR (yc c) b h).set fullShare f
/-- The quarter of the own slot's half that the device keeps. -/
abbrev oL (b : Fin 2) : sProp 𝕄 := pts c cc0_scratch5 (halfR (yc c) b).set (lf (yc c)) (OB I c)
abbrev rdO (b : Fin 2) (p : Fin 4) : sProp 𝕄 := pts c cc0_scratch5 (halfR p b).set (sh c p) (OB I c)
abbrev oc (b : Fin 2) : Chan := ![3, 4] b

theorem head_join (p : Fin 4) (b : Fin 2) (f : Vec F S4x512x256 .bf16) :
    pts c cc0_scratch5 (halfR p b).set fullShare f = bigSep Finset.univ fun h : Fin 4 => pts (F := F) c cc0_scratch5 (headR p b h).set fullShare f := by
  have h := pointsTo_biUnion (Ix := Unit) (Name := ℕ) (U := UU) (Lvl := ℕ) (Val := Elt F) (ℓ := (c : Thread nD τ).loc cc0_scratch5) (q := fullShare) (f := f)
    Finset.univ (fun h : Fin 4 => (headR p b h).set) (fun t _ t' _ ht => head_disjoint p b t t' ht)
  rw [← head_cover p b]; exact h

theorem half_split (b : Fin 2) (Y : Fin 4 → sProp 𝕄)
    (hY : ∀ p, Y p = on c p (pts c cc0_scratch5 (halfR (yc c) b).set (lf p) (OB I c))) :
    all4 (fun h => hd c b h (OB I c)) = iprop(oL I c b ∗ all4 Y) := by
  have e : all4 (fun h => hd c b h (OB I c)) = bigSep Finset.univ fun h : Fin 4 => hd (F := F) c b h (OB I c) :=
    (bigSep_4 fun h : Fin 4 => hd (F := F) c b h (OB I c)).symm
  rw [e, ← head_join, pts_leaves, own_split c, bigSep_4]
  show _ = iprop(_ ∗ Y 0 ∗ Y 1 ∗ Y 2 ∗ Y 3)
  rw [hY, hY, hY, hY]

theorem half_split0 : all4 (fun h => hd c 0 h (OB I c)) = iprop(oL I c 0 ∗ all4 (sntX I c 3)) := half_split I c 0 _ fun _ => rfl
theorem half_split1 : all4 (fun h => hd c 1 h (OB I c)) = iprop(oL I c 1 ∗ all4 (sntX I c 4)) := half_split I c 1 _ fun _ => rfl

theorem rdO_all (b : Fin 2) (Y : Fin 4 → sProp 𝕄) (hY : ∀ p, Y p = on c p (pts c cc0_scratch5 (halfR p b).set fullShare (OB I c))) :
    iprop(oL I c b ∗ all4 Y) = all4 (rdO I c b) := by
  refine Eq.trans ?_ (own_split4 c (rdO I c b)).symm
  have e : sh c (yc c) = lf (yc c) := if_pos rfl
  have e' : ∀ p, on c p (rdO I c b p) = Y p := fun p => (on_of c p fun hp => by
    unfold rdO; rw [show sh c p = fullShare from if_neg hp]).trans (hY p).symm
  rw [e' 0, e' 1, e' 2, e' 3]
  unfold rdO; rw [e]
theorem rdO_all0 : iprop(oL I c 0 ∗ all4 (fun p => on c p (xPay I true 3 c p))) = all4 (rdO I c 0) := rdO_all I c 0 _ fun _ => rfl
theorem rdO_all1 : iprop(oL I c 1 ∗ all4 (fun p => on c p (xPay I true 4 c p))) = all4 (rdO I c 1) := rdO_all I c 1 _ fun _ => rfl

theorem head_in (p : Fin 4) (b : Fin 2) (h : Fin 4) : ∀ a, (![p.val, 256 * b.val, 64 * h.val] : Fin 3 → ℕ) a + S1x256x64.size a ≤ S4x512x256.size a := by
  have := p.isLt; have := b.isLt; have := h.isLt
  intro a; fin_cases a
  · show p.val + 1 ≤ 4; omega
  · show 256 * b.val + 256 ≤ 512; omega
  · show 64 * h.val + 64 ≤ 256; omega
theorem half_in (p : Fin 4) (b : Fin 2) : ∀ a, (![p.val, 256 * b.val, 0] : Fin 3 → ℕ) a + S1x256x256.size a ≤ S4x512x256.size a := by
  have := p.isLt; have := b.isLt
  intro a; fin_cases a
  · show p.val + 1 ≤ 4; omega
  · show 256 * b.val + 256 ≤ 512; omega
  · show 0 + 256 ≤ 256; omega
theorem out_in (b : Fin 2) : ∀ a, (![256 * b.val, 0] : Fin 2 → ℕ) a + S256x1024.size a ≤ S512x1024.size a := by
  have := b.isLt
  intro a; fin_cases a
  · show 256 * b.val + 256 ≤ 512; omega
  · show 0 + 1024 ≤ 1024; omega

theorem nil_lt (n : ℕ) : ∀ e ∈ ([] : List Ev), n < evLv e := fun e he => absurd he List.not_mem_nil
theorem cr_o0 : Ref.dmaCredit (cc0_scratch5 : Ref sig .tc) S256x256 .bf16 = N 3 := rfl
theorem cr_o1 : Ref.dmaCredit (cc0_scratch5 : Ref sig .tc) S256x256 .bf16 = N 4 := rfl
theorem cr_k' : Ref.dmaCredit (cc0_scratch1 : Ref sig .tc) S64x256 .bf16 = N 1 := rfl
theorem cr_v' : Ref.dmaCredit (cc0_scratch2 : Ref sig .tc) S64x256 .bf16 = N 2 := rfl

end Res

section Parts
variable (c : Dev nD)

/-- The attention weights of the first head and the values it weighs. -/
abbrev p26 : FVec F S256x64 .bf16 := k0_pay26 (cf I c) (wvS I (pr c 0) (yc c)) (wvS I (pr c 1) (yc c)) (wvS I (pr c 2) (yc c)) (wvS I (pr c 3) (yc c))
abbrev p27 : FVec F S256x256 .bf16 := k0_pay27 (qv I c) (qr I c) (kr I c) (cf I c) (k0_pay21 (wkS I (pr c 0) (yc c))) (k0_pay22 (wkS I (pr c 1) (yc c)))
  (wkS I (pr c 2) (yc c)) (wkS I (pr c 3) (yc c))
abbrev p31 : FVec F S256x256 .f32 := k0_pay31 (qv I c) (qr I c) (kf I c) (k0_pay25 (kr I c))
abbrev p37 : FVec F S256x256 .f32 := k0_pay37 (qv I c) (qr I c) (kr I c) (kf I c)
abbrev p38 : FVec F S256 .f32 := k0_pay38 (qv I c) (qr I c) (kr I c) (kf I c)

theorem part19_spec (f5 : Vec F S4x512x256 .bf16) {Q : _ → sProp 𝕄} :
    iprop(hd c 0 0 f5 ∗ hd c 0 1 f5)
      ⊢ iprop((iprop(hd c 0 0 (OB I c) ∗ hd c 0 1 (OB I c)) -∗ Q ⟨k0_pay30 (vf I c), p31 I c⟩)
        -∗ WP c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (w5 c) (qv I c) (qr I c) (kf I c) (vf I c) (k0_pay25 (kr I c)) (p26 I c) (p27 I c)) Q) := by
  rw [k0_part19_eq_skeleton]; unfold k0_part19_skel
  simp only [Prog.lift, Prog.bind_op, Prog.bind_ret, Prog.pure_eq_ret, WP]
  iintro ⟨H0, H1⟩ Hk
  iapply (wp_load_at c (n := 14) (hn := rfl) (off' := ![(yc c).val, 256 * (0 : Fin 2).val, 64 * (0 : Fin 4).val]) (k0_off17_eq c) (head_in (yc c) 0 0)) $$ H0
  iintro H0
  iapply (wp_store_at c (n := 14) (hn := rfl) (off' := ![(yc c).val, 256 * (0 : Fin 2).val, 64 * (0 : Fin 4).val]) (k0_off17_eq c) (head_in (yc c) 0 0) (OB I c) (rd_head I c 0 0)) $$ H0
  iintro H0
  iapply (wp_load_at c (n := 14) (hn := rfl) (off' := ![(yc c).val, 256 * (0 : Fin 2).val, 64 * (1 : Fin 4).val]) (k0_off18_eq c) (head_in (yc c) 0 1)) $$ H1
  iintro H1
  iapply (wp_store_at c (n := 14) (hn := rfl) (off' := ![(yc c).val, 256 * (0 : Fin 2).val, 64 * (1 : Fin 4).val]) (k0_off18_eq c) (head_in (yc c) 0 1) (OB I c) (rd_head I c 0 1)) $$ H1
  iintro H1
  iapply (wp_done c rfl)
  iapply Hk
  isplitl [H0]; · iexact H0
  iexact H1

theorem part20_spec (f5 : Vec F S4x512x256 .bf16) {Q : _ → sProp 𝕄} :
    iprop(recs I K ∗ ow c (tot c evO) ∗ (hd c 0 0 (OB I c) ∗ hd c 0 1 (OB I c) ∗ hd c 0 2 f5 ∗ hd c 0 3 f5) ∗ all4 (tkX c 3) ∗ all4 (lndX c 3))
      ⊢ iprop((iprop(ow c (tot c ((some 3, 1) :: (some 3, 2) :: (some 3, 3) :: evO1)) ∗ oL I c 0 ∗ crdX c 3 0 ∗ sendPre I c 3 1 ∗ sendPre I c 3 2 ∗ sendPre I c 3 3) -∗ Q ⟨⟩)
        -∗ WP c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (w2 c) (w5 c) (w8 c) (qv I c) (qr I c) (kf I c) (vf I c) (k0_pay25 (kr I c)) (k0_pay30 (vf I c)) (p31 I c)) Q) := by
  rw [k0_part20_eq_skeleton]; unfold k0_part20_skel
  simp only [Prog.lift, Prog.bind_op, Prog.bind_ret, Prog.pure_eq_ret, WP]
  iintro ⟨#HR, HO, ⟨H0, H1, H2, H3⟩, ⟨T0, T1, T2, T3⟩, ⟨L0, L1, L2, L3⟩⟩ Hk
  iapply (wp_load_at c (n := 14) (hn := rfl) (off' := ![(yc c).val, 256 * (0 : Fin 2).val, 64 * (2 : Fin 4).val]) (k0_off19_eq c) (head_in (yc c) 0 2)) $$ H2
  iintro H2
  iapply (wp_store_at c (n := 14) (hn := rfl) (off' := ![(yc c).val, 256 * (0 : Fin 2).val, 64 * (2 : Fin 4).val]) (k0_off19_eq c) (head_in (yc c) 0 2) (OB I c) (rd_head I c 0 2)) $$ H2
  iintro H2
  iapply (wp_load_at c (n := 14) (hn := rfl) (off' := ![(yc c).val, 256 * (0 : Fin 2).val, 64 * (3 : Fin 4).val]) (k0_off20_eq c) (head_in (yc c) 0 3)) $$ H3
  iintro H3
  iapply (wp_store_at c (n := 14) (hn := rfl) (off' := ![(yc c).val, 256 * (0 : Fin 2).val, 64 * (3 : Fin 4).val]) (k0_off20_eq c) (head_in (yc c) 0 3) (OB I c) (rd_head I c 0 3)) $$ H3
  iintro H3
  ihave H := (Entails.of_eq (half_split0 I c)) $$ [H0 H1 H2 H3]
  · isplitl [H0]; · iexact H0
    isplitl [H1]; · iexact H1
    isplitl [H2]; · iexact H2
    iexact H3
  icases H with ⟨HL, S0, S1, S2, S3⟩
  ihave S0 := (mk_sendPre I c 3 0) $$ [T0 L0 S0]
  · isplitl [T0]; · iexact T0
    isplitl [L0]; · iexact L0
    iexact S0
  ihave S1 := (mk_sendPre I c 3 1) $$ [T1 L1 S1]
  · isplitl [T1]; · iexact T1
    isplitl [L1]; · iexact L1
    iexact S1
  ihave S2 := (mk_sendPre I c 3 2) $$ [T2 L2 S2]
  · isplitl [T2]; · iexact T2
    isplitl [L2]; · iexact L2
    iexact S2
  ihave S3 := (mk_sendPre I c 3 3) $$ [T3 L3 S3]
  · isplitl [T3]; · iexact T3
    isplitl [L3]; · iexact L3
    iexact S3
  iapply (sendo0_step I K c (p := 0) (gd_iff c 0) ((some 3, 1) :: (some 3, 2) :: (some 3, 3) :: evO1)
      (fun h => dev_at c 0 (k0_dev17_eq c) (k0_dev17_lt c h)) (fun h => sem_os0 0 rfl inb_S2x4_S1x1_0_0) (fun h => sem_or0 (yc c) (k0_off21_eq c) (k0_off21_inb c h)) (at3 c (k0_off22_eq c))) $$ [HO S0]
  · isplitr; · iexact HR
    isplitl [HO]; · iexact HO
    iexact S0
  iintro ⟨HO, C0⟩
  iapply (wp_done c rfl)
  iapply Hk
  isplitl [HO]; · iexact HO
  isplitl [HL]; · iexact HL
  isplitl [C0]; · iexact C0
  isplitl [S1]; · iexact S1
  isplitl [S2]; · iexact S2
  iexact S3

theorem part21_spec (f5 : Vec F S4x512x256 .bf16) {Q : _ → sProp 𝕄} :
    iprop(recs I K ∗ ow c (tot c ((some 3, 1) :: (some 3, 2) :: (some 3, 3) :: evO1)) ∗ (sendPre I c 3 1 ∗ sendPre I c 3 2 ∗ sendPre I c 3 3) ∗ hd c 1 0 f5)
      ⊢ iprop((iprop(ow c (tot c evO1) ∗ (crdX c 3 1 ∗ crdX c 3 2 ∗ crdX c 3 3) ∗ hd c 1 0 (OB I c)) -∗ Q ⟨k0_pay34 (kr I c), k0_pay36 (vf I c), p37 I c, p38 I c⟩)
        -∗ WP c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (w2 c) (w5 c) (w8 c) (qv I c) (qr I c) (kr I c) (kf I c) (vf I c)) Q) := by
  rw [k0_part21_eq_skeleton]; unfold k0_part21_skel
  simp only [Prog.lift, Prog.bind_op, Prog.bind_ret, Prog.pure_eq_ret, WP]
  iintro ⟨#HR, HO, ⟨S1, S2, S3⟩, H0⟩ Hk
  iapply (sendo0_step I K c (p := 1) (gd_iff c 1) ((some 3, 2) :: (some 3, 3) :: evO1)
      (fun h => dev_at c 1 (k0_dev18_eq c) (k0_dev18_lt c h)) (fun h => sem_os0 1 rfl inb_S2x4_S1x1_0_1) (fun h => sem_or0 (yc c) (k0_off23_eq c) (k0_off23_inb c h)) (at3 c (k0_off24_eq c))) $$ [HO S1]
  · isplitr; · iexact HR
    isplitl [HO]; · iexact HO
    iexact S1
  iintro ⟨HO, C1⟩
  iapply (sendo0_step I K c (p := 2) (gd_iff c 2) ((some 3, 3) :: evO1)
      (fun h => dev_at c 2 (k0_dev19_eq c) (k0_dev19_lt c h)) (fun h => sem_os0 2 rfl inb_S2x4_S1x1_0_2) (fun h => sem_or0 (yc c) (k0_off25_eq c) (k0_off25_inb c h)) (at3 c (k0_off26_eq c))) $$ [HO S2]
  · isplitr; · iexact HR
    isplitl [HO]; · iexact HO
    iexact S2
  iintro ⟨HO, C2⟩
  iapply (sendo0_step I K c (p := 3) (gd_iff c 3) evO1
      (fun h => dev_at c 3 (k0_dev20_eq c) (k0_dev20_lt c h)) (fun h => sem_os0 3 rfl inb_S2x4_S1x1_0_3) (fun h => sem_or0 (yc c) (k0_off27_eq c) (k0_off27_inb c h)) (at3 c (k0_off28_eq c))) $$ [HO S3]
  · isplitr; · iexact HR
    isplitl [HO]; · iexact HO
    iexact S3
  iintro ⟨HO, C3⟩
  iapply (wp_load_at c (n := 14) (hn := rfl) (off' := ![(yc c).val, 256 * (1 : Fin 2).val, 64 * (0 : Fin 4).val]) (k0_off29_eq c) (head_in (yc c) 1 0)) $$ H0
  iintro H0
  iapply (wp_store_at c (n := 14) (hn := rfl) (off' := ![(yc c).val, 256 * (1 : Fin 2).val, 64 * (0 : Fin 4).val]) (k0_off29_eq c) (head_in (yc c) 1 0) (OB I c) (rd_head I c 1 0)) $$ H0
  iintro H0
  iapply (wp_done c rfl)
  iapply Hk
  isplitl [HO]; · iexact HO
  isplitl [C1 C2 C3]
  · isplitl [C1]; · iexact C1
    isplitl [C2]; · iexact C2
    iexact C3
  iexact H0

theorem part22_spec (f5 : Vec F S4x512x256 .bf16) {Q : _ → sProp 𝕄} :
    iprop(hd c 1 1 f5 ∗ hd c 1 2 f5)
      ⊢ iprop((iprop(hd c 1 1 (OB I c) ∗ hd c 1 2 (OB I c))
            -∗ Q ⟨k0_pay41 (vf I c), k0_pay42 (qv I c) (qr I c), k0_pay43 (kf I c) (k0_pay34 (kr I c)), constant S256x256 .f32 0x00000000#32⟩)
        -∗ WP c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (w5 c) (qv I c) (qr I c) (kf I c) (vf I c) (k0_pay34 (kr I c)) (k0_pay36 (vf I c)) (p37 I c) (p38 I c)) Q) := by
  rw [k0_part22_eq_skeleton]; unfold k0_part22_skel
  simp only [Prog.lift, Prog.bind_op, Prog.bind_ret, Prog.pure_eq_ret, WP]
  iintro ⟨H1, H2⟩ Hk
  iapply (wp_load_at c (n := 14) (hn := rfl) (off' := ![(yc c).val, 256 * (1 : Fin 2).val, 64 * (1 : Fin 4).val]) (k0_off30_eq c) (head_in (yc c) 1 1)) $$ H1
  iintro H1
  iapply (wp_store_at c (n := 14) (hn := rfl) (off' := ![(yc c).val, 256 * (1 : Fin 2).val, 64 * (1 : Fin 4).val]) (k0_off30_eq c) (head_in (yc c) 1 1) (OB I c) (rd_head I c 1 1)) $$ H1
  iintro H1
  iapply (wp_load_at c (n := 14) (hn := rfl) (off' := ![(yc c).val, 256 * (1 : Fin 2).val, 64 * (2 : Fin 4).val]) (k0_off31_eq c) (head_in (yc c) 1 2)) $$ H2
  iintro H2
  iapply (wp_store_at c (n := 14) (hn := rfl) (off' := ![(yc c).val, 256 * (1 : Fin 2).val, 64 * (2 : Fin 4).val]) (k0_off31_eq c) (head_in (yc c) 1 2) (OB I c) (rd_head I c 1 2)) $$ H2
  iintro H2
  iapply (wp_done c rfl)
  iapply Hk
  isplitl [H1]; · iexact H1
  iexact H2

theorem part23_spec (f5 : Vec F S4x512x256 .bf16) {Q : _ → sProp 𝕄} :
    iprop(recs I K ∗ ow c (tot c evO1) ∗ (hd c 1 0 (OB I c) ∗ hd c 1 1 (OB I c) ∗ hd c 1 2 (OB I c) ∗ hd c 1 3 f5) ∗ all4 (tkX c 4) ∗ all4 (lndX c 4) ∗ waitPre c true 3 0)
      ⊢ iprop((iprop(ow c (tot c []) ∗ oL I c 1 ∗ all4 (crdX c 4) ∗ waitPost I c true 3 0)
            -∗ Q ⟨Scalar.extui (Scalar.cmpi .ne (w5 c) 1#32), 0#32⟩)
        -∗ WP c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 c (w2 c) (w5 c) (w8 c) (k0_pay41 (vf I c)) (k0_pay42 (qv I c) (qr I c)) (k0_pay43 (kf I c) (k0_pay34 (kr I c))) (constant S256x256 .f32 0x00000000#32)) Q) := by
  rw [k0_part23_eq_skeleton]; unfold k0_part23_skel
  simp only [Prog.lift, Prog.bind_op, Prog.bind_ret, Prog.pure_eq_ret, WP]
  iintro ⟨#HR, HO, ⟨H0, H1, H2, H3⟩, ⟨T0, T1, T2, T3⟩, ⟨L0, L1, L2, L3⟩, HW⟩ Hk
  iapply (wp_load_at c (n := 14) (hn := rfl) (off' := ![(yc c).val, 256 * (1 : Fin 2).val, 64 * (3 : Fin 4).val]) (k0_off32_eq c) (head_in (yc c) 1 3)) $$ H3
  iintro H3
  iapply (wp_store_at c (n := 14) (hn := rfl) (off' := ![(yc c).val, 256 * (1 : Fin 2).val, 64 * (3 : Fin 4).val]) (k0_off32_eq c) (head_in (yc c) 1 3) (OB I c) (rd_head I c 1 3)) $$ H3
  iintro H3
  ihave H := (Entails.of_eq (half_split1 I c)) $$ [H0 H1 H2 H3]
  · isplitl [H0]; · iexact H0
    isplitl [H1]; · iexact H1
    isplitl [H2]; · iexact H2
    iexact H3
  icases H with ⟨HL, S0, S1, S2, S3⟩
  ihave S0 := (mk_sendPre I c 4 0) $$ [T0 L0 S0]
  · isplitl [T0]; · iexact T0
    isplitl [L0]; · iexact L0
    iexact S0
  ihave S1 := (mk_sendPre I c 4 1) $$ [T1 L1 S1]
  · isplitl [T1]; · iexact T1
    isplitl [L1]; · iexact L1
    iexact S1
  ihave S2 := (mk_sendPre I c 4 2) $$ [T2 L2 S2]
  · isplitl [T2]; · iexact T2
    isplitl [L2]; · iexact L2
    iexact S2
  ihave S3 := (mk_sendPre I c 4 3) $$ [T3 L3 S3]
  · isplitl [T3]; · iexact T3
    isplitl [L3]; · iexact L3
    iexact S3
  iapply (sendo1_step I K c (p := 0) (gd_iff c 0) [(some 4, 1), (some 4, 2), (some 4, 3)]
      (fun h => dev_at c 0 (k0_dev21_eq c) (k0_dev21_lt c h)) (fun h => sem_os1 0 rfl inb_S2x4_S1x1_1_0) (fun h => sem_or1 (yc c) (k0_off33_eq c) (k0_off33_inb c h)) (at3 c (k0_off34_eq c))) $$ [HO S0]
  · isplitr; · iexact HR
    isplitl [HO]; · iexact HO
    iexact S0
  iintro ⟨HO, C0⟩
  iapply (sendo1_step I K c (p := 1) (gd_iff c 1) [(some 4, 2), (some 4, 3)]
      (fun h => dev_at c 1 (k0_dev22_eq c) (k0_dev22_lt c h)) (fun h => sem_os1 1 rfl inb_S2x4_S1x1_1_1) (fun h => sem_or1 (yc c) (k0_off35_eq c) (k0_off35_inb c h)) (at3 c (k0_off36_eq c))) $$ [HO S1]
  · isplitr; · iexact HR
    isplitl [HO]; · iexact HO
    iexact S1
  iintro ⟨HO, C1⟩
  iapply (sendo1_step I K c (p := 2) (gd_iff c 2) [(some 4, 3)]
      (fun h => dev_at c 2 (k0_dev23_eq c) (k0_dev23_lt c h)) (fun h => sem_os1 2 rfl inb_S2x4_S1x1_1_2) (fun h => sem_or1 (yc c) (k0_off37_eq c) (k0_off37_inb c h)) (at3 c (k0_off38_eq c))) $$ [HO S2]
  · isplitr; · iexact HR
    isplitl [HO]; · iexact HO
    iexact S2
  iintro ⟨HO, C2⟩
  iapply (sendo1_step I K c (p := 3) (gd_iff c 3) []
      (fun h => dev_at c 3 (k0_dev24_eq c) (k0_dev24_lt c h)) (fun h => sem_os1 3 rfl inb_S2x4_S1x1_1_3) (fun h => sem_or1 (yc c) (k0_off39_eq c) (k0_off39_inb c h)) (at3 c (k0_off40_eq c))) $$ [HO S3]
  · isplitr; · iexact HR
    isplitl [HO]; · iexact HO
    iexact S3
  iintro ⟨HO, C3⟩
  iapply (wait1_step I K c (p := 0) (gd_iff c 0) [] true 3 (nil_lt _) (fun h => sem_or0 0 rfl inb_S2x4_S1x1_0_0) cr_o0) $$ [HO HW]
  · isplitr; · iexact HR
    isplitl [HO]; · iexact HO
    iexact HW
  iintro ⟨HO, HX, HP⟩
  iapply (wp_done c rfl)
  iapply Hk
  isplitl [HO]; · iexact HO
  isplitl [HL]; · iexact HL
  isplitl [C0 C1 C2 C3]
  · isplitl [C0]; · iexact C0
    isplitl [C1]; · iexact C1
    isplitl [C2]; · iexact C2
    iexact C3
  isplitl [HX]; · iexact HX
  iexact HP

theorem part24_spec (f8 : Vec F S512x1024 .f32) {Q : _ → sProp 𝕄} :
    iprop(recs I K ∗ ow c (tot c []) ∗ waitPost I c true 3 0 ∗ (waitPre c true 3 1 ∗ waitPre c true 3 2 ∗ waitPre c true 3 3) ∗ oL I c 0
        ∗ pts c cc0_stg8_0 (outR 0).set fullShare f8)
      ⊢ iprop((iprop(ow c (tot c []) ∗ all4 (posX (F := F) c true 3) ∗ all4 (rdO I c 0) ∗ pts c cc0_stg8_0 (outR 0).set fullShare (outAt I c))
            -∗ Q ⟨Scalar.extui (Scalar.cmpi .ne (w5 c) 0#32), 0#32⟩)
        -∗ WP c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (w2 c) (w5 c) (w8 c) (k0_pay19 (I c).wo) (Scalar.extui (Scalar.cmpi .ne (w5 c) 1#32)) 0#32) Q) := by
  rw [k0_part24_eq_skeleton]; unfold k0_part24_skel
  simp only [Prog.lift, Prog.bind_op, Prog.bind_ret, Prog.pure_eq_ret, WP]
  iintro ⟨#HR, HO, ⟨R0, P0⟩, ⟨W1, W2, W3⟩, HL, HQ⟩ Hk
  iapply (wait1_step I K c (p := 1) (gd_iff c 1) [] true 3 (nil_lt _) (fun h => sem_or0 1 rfl inb_S2x4_S1x1_0_1) cr_o0) $$ [HO W1]
  · isplitr; · iexact HR
    isplitl [HO]; · iexact HO
    iexact W1
  iintro ⟨HO, R1, P1⟩
  iapply (wait1_step I K c (p := 2) (gd_iff c 2) [] true 3 (nil_lt _) (fun h => sem_or0 2 rfl inb_S2x4_S1x1_0_2) cr_o0) $$ [HO W2]
  · isplitr; · iexact HR
    isplitl [HO]; · iexact HO
    iexact W2
  iintro ⟨HO, R2, P2⟩
  iapply (wait1_step I K c (p := 3) (gd_iff c 3) [] true 3 (nil_lt _) (fun h => sem_or0 3 rfl inb_S2x4_S1x1_0_3) cr_o0) $$ [HO W3]
  · isplitr; · iexact HR
    isplitl [HO]; · iexact HO
    iexact W3
  iintro ⟨HO, R3, P3⟩
  ihave H := (Entails.of_eq (rdO_all0 I c)) $$ [HL R0 R1 R2 R3]
  · isplitl [HL]; · iexact HL
    isplitl [R0]; · iexact R0
    isplitl [R1]; · iexact R1
    isplitl [R2]; · iexact R2
    iexact R3
  icases H with ⟨H0, H1, H2, H3⟩
  iapply (wp_load_at c (n := 14) (hn := rfl) (off' := ![(0 : Fin 4).val, 256 * (0 : Fin 2).val, 0]) rfl (half_in 0 0)) $$ H0
  iintro H0
  iapply (wp_load_at c (n := 14) (hn := rfl) (off' := ![(1 : Fin 4).val, 256 * (0 : Fin 2).val, 0]) rfl (half_in 1 0)) $$ H1
  iintro H1
  iapply (wp_load_at c (n := 14) (hn := rfl) (off' := ![(2 : Fin 4).val, 256 * (0 : Fin 2).val, 0]) rfl (half_in 2 0)) $$ H2
  iintro H2
  iapply (wp_load_at c (n := 14) (hn := rfl) (off' := ![(3 : Fin 4).val, 256 * (0 : Fin 2).val, 0]) rfl (half_in 3 0)) $$ H3
  iintro H3
  iapply (wp_load_at c (n := 8) (hn := rfl) (off' := ![256 * (0 : Fin 2).val, 0]) rfl (out_in 0)) $$ HQ
  iintro HQ
  iapply (wp_store_at c (n := 8) (hn := rfl) (off' := ![256 * (0 : Fin 2).val, 0]) rfl (out_in 0) (outAt I c) (rd_out I c 0)) $$ HQ
  iintro HQ
  iapply (wp_done c rfl)
  iapply Hk
  isplitl [HO]; · iexact HO
  isplitl [P0 P1 P2 P3]
  · isplitl [P0]; · iexact P0
    isplitl [P1]; · iexact P1
    isplitl [P2]; · iexact P2
    iexact P3
  isplitl [H0 H1 H2 H3]
  · isplitl [H0]; · iexact H0
    isplitl [H1]; · iexact H1
    isplitl [H2]; · iexact H2
    iexact H3
  iexact HQ

theorem part25_spec {Q : _ → sProp 𝕄} :
    iprop(recs I K ∗ ow c (tot c []) ∗ all4 (waitPre c true 4) ∗ oL I c 1)
      ⊢ iprop((iprop(ow c (tot c []) ∗ all4 (posX (F := F) c true 4) ∗ all4 (rdO I c 1)) -∗ Q (outH I c 1))
        -∗ WP c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13 (w2 c) (w5 c) (w8 c) (k0_pay19 (I c).wo) (Scalar.extui (Scalar.cmpi .ne (w5 c) 0#32)) 0#32) Q) := by
  rw [k0_part25_eq_skeleton]; unfold k0_part25_skel
  simp only [Prog.lift, Prog.bind_op, Prog.bind_ret, Prog.pure_eq_ret, WP]
  iintro ⟨#HR, HO, ⟨W0, W1, W2, W3⟩, HL⟩ Hk
  iapply (wait1_step I K c (p := 0) (gd_iff c 0) [] true 4 (nil_lt _) (fun h => sem_or1 0 rfl inb_S2x4_S1x1_1_0) cr_o1) $$ [HO W0]
  · isplitr; · iexact HR
    isplitl [HO]; · iexact HO
    iexact W0
  iintro ⟨HO, R0, P0⟩
  iapply (wait1_step I K c (p := 1) (gd_iff c 1) [] true 4 (nil_lt _) (fun h => sem_or1 1 rfl inb_S2x4_S1x1_1_1) cr_o1) $$ [HO W1]
  · isplitr; · iexact HR
    isplitl [HO]; · iexact HO
    iexact W1
  iintro ⟨HO, R1, P1⟩
  iapply (wait1_step I K c (p := 2) (gd_iff c 2) [] true 4 (nil_lt _) (fun h => sem_or1 2 rfl inb_S2x4_S1x1_1_2) cr_o1) $$ [HO W2]
  · isplitr; · iexact HR
    isplitl [HO]; · iexact HO
    iexact W2
  iintro ⟨HO, R2, P2⟩
  iapply (wait1_step I K c (p := 3) (gd_iff c 3) [] true 4 (nil_lt _) (fun h => sem_or1 3 rfl inb_S2x4_S1x1_1_3) cr_o1) $$ [HO W3]
  · isplitr; · iexact HR
    isplitl [HO]; · iexact HO
    iexact W3
  iintro ⟨HO, R3, P3⟩
  ihave H := (Entails.of_eq (rdO_all1 I c)) $$ [HL R0 R1 R2 R3]
  · isplitl [HL]; · iexact HL
    isplitl [R0]; · iexact R0
    isplitl [R1]; · iexact R1
    isplitl [R2]; · iexact R2
    iexact R3
  icases H with ⟨H0, H1, H2, H3⟩
  iapply (wp_load_at c (n := 14) (hn := rfl) (off' := ![(0 : Fin 4).val, 256 * (1 : Fin 2).val, 0]) rfl (half_in 0 1)) $$ H0
  iintro H0
  iapply (wp_load_at c (n := 14) (hn := rfl) (off' := ![(1 : Fin 4).val, 256 * (1 : Fin 2).val, 0]) rfl (half_in 1 1)) $$ H1
  iintro H1
  iapply (wp_load_at c (n := 14) (hn := rfl) (off' := ![(2 : Fin 4).val, 256 * (1 : Fin 2).val, 0]) rfl (half_in 2 1)) $$ H2
  iintro H2
  iapply (wp_load_at c (n := 14) (hn := rfl) (off' := ![(3 : Fin 4).val, 256 * (1 : Fin 2).val, 0]) rfl (half_in 3 1)) $$ H3
  iintro H3
  iapply (wp_done c (b := outH I c 1) (by rfl))
  iapply Hk
  isplitl [HO]; · iexact HO
  isplitl [P0 P1 P2 P3]
  · isplitl [P0]; · iexact P0
    isplitl [P1]; · iexact P1
    isplitl [P2]; · iexact P2
    iexact P3
  isplitl [H0]; · iexact H0
  isplitl [H1]; · iexact H1
  isplitl [H2]; · iexact H2
  iexact H3

end Parts

end Cert.Mla
end
-- ==== Proof.Body.lean ====
/-
The whole body at one device.
-/
module

public import proofs.«01_k».proof.Proof.Parts3

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (I : Dev nD → Ins F) (K : Dev nD × Fin 41 → ℕ)

section Body
variable (c : Dev nD)

theorem cb_split : pts c cc0_scratch0 (slotR 512 64 (yc c)).set fullShare (CB I c)
    = iprop(pts c cc0_scratch0 (slotR 512 64 (yc c)).set (lf (yc c)) (CB I c) ∗ all4 (sntX I c 0)) := by
  rw [pts_leaves, own_split c, bigSep_4]; rfl

/-- The position at the cell of a transfer's source, before its wait. -/
abbrev atS (k : Chan) (p : Fin 4) : sProp 𝕄 := atPos ER (xC c false k p) 0 ∅ 0

theorem mk_wait (k : Chan) (p : Fin 4) : iprop(crdX (F := F) c k p ∗ atS c k p) ⊢ waitPre c false k p := by
  unfold waitPre; iintro ⟨H1, H2⟩; isplitl [H1]; · iexact H1
  iexact H2

def Xs : sProp 𝕄 := iprop(X0 I c ∗ X1 I c ∗ X2 I c ∗ X3 I c ∗ X4 I c ∗ X5 I c ∗ X6 I c ∗ X7 I c)
abbrev all5 (Y : Chan → Fin 4 → sProp 𝕄) : sProp 𝕄 := iprop(all4 (Y 0) ∗ all4 (Y 1) ∗ all4 (Y 2) ∗ all4 (Y 3) ∗ all4 (Y 4))

/-- The scratch buffers' pieces device `c` keeps when the body starts. -/
def bufs0 (f0 : Vec F S4x512x64 .bf16) (f1 f2 f3 f4 : Vec F S4x64x256 .bf16) (f5 : Vec F S4x512x256 .bf16) : sProp 𝕄 :=
  iprop(pts c cc0_scratch0 (slotR 512 64 (yc c)).set fullShare f0 ∗ all4 (fun p => sl1 c p f1) ∗ all4 (fun p => sl2 c p f2)
    ∗ sl3 c (yc c) f3 ∗ sl4 c (yc c) f4 ∗ all4 (fun h => hd c 0 h f5) ∗ all4 (fun h => hd c 1 h f5))
/-- and those it holds, beside what its transfers have given back, when the body is done. -/
def bufs1 : sProp 𝕄 :=
  iprop(all4 (rdC I c) ∗ sl1 c (yc c) (WKS I c) ∗ sl2 c (yc c) (WVS I c) ∗ all4 (fun p => sl3 c p (WK I c)) ∗ all4 (fun p => sl4 c p (WV I c))
    ∗ all4 (rdO I c 0) ∗ all4 (rdO I c 1))
def outs (f : Vec F S512x1024 .f32) : sProp 𝕄 := iprop(pts c cc0_stg8_0 (outR 0).set fullShare f ∗ pts c cc0_stg8_0 (outR 1).set fullShare f)

def bodyPre (f0 : Vec F S4x512x64 .bf16) (f1 f2 f3 f4 : Vec F S4x64x256 .bf16) (f5 : Vec F S4x512x256 .bf16) (f8 : Vec F S512x1024 .f32) : sProp 𝕄 :=
  iprop(recs I K ∗ ow c (tot c evAll) ∗ all4 (sigX c) ∗ Xs I c ∗ bufs0 c f0 f1 f2 f3 f4 f5 ∗ outs c f8
    ∗ (cred (tallyAt (barC c) () 3) ∗ atPos ER (barC c) 0 ∅ 0) ∗ all5 (tkX c) ∗ all5 (waitPre c true) ∗ all5 (atS c))
def bodyPost : sProp 𝕄 :=
  iprop(ow c (tot c []) ∗ Xs I c ∗ bufs1 I c ∗ outs c (outAt I c) ∗ atPos ER (barC c) 1 ∅ 0
    ∗ all5 (posX c true) ∗ all5 (waitPost I c false))

set_option maxHeartbeats 4000000 in
theorem body_spec (f0 : Vec F S4x512x64 .bf16) (f1 f2 f3 f4 : Vec F S4x64x256 .bf16) (f5 : Vec F S4x512x256 .bf16) (f8 : Vec F S512x1024 .f32) :
    bodyPre I K c f0 f1 f2 f3 f4 f5 f8 ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) fun _ => bodyPost I c := by
  rw [cc0_body_eq_skeleton]; unfold cc0_body_skel bodyPre bodyPost Xs bufs0 bufs1 outs
  simp only [k0_part9_eq_skeleton, k0_part9_skel, k0_part10_eq_skeleton, k0_part10_skel, k0_part11_eq_skeleton, k0_part11_skel, k0_part12_eq_skeleton, k0_part12_skel,
    Prog.lift, Prog.bind_op, Prog.bind_ret, Prog.pure_eq_ret, WP, wp_bind]
  iintro ⟨#HR, HO, ⟨G0, G1, G2, G3⟩, ⟨X0, X1, X2, X3, X4, X5, X6, X7⟩, ⟨HC, ⟨A0, A1, A2, A3⟩, ⟨B0, B1, B2, B3⟩, H3, H4, ⟨D00, D01, D02, D03⟩, ⟨D10, D11, D12, D13⟩⟩, ⟨Q0, Q1⟩, ⟨HBC, HBP⟩, ⟨⟨T00, T01, T02, T03⟩, ⟨T10, T11, T12, T13⟩, ⟨T20, T21, T22, T23⟩, ⟨T30, T31, T32, T33⟩, ⟨T40, T41, T42, T43⟩⟩, ⟨⟨W00, W01, W02, W03⟩, ⟨W10, W11, W12, W13⟩, ⟨W20, W21, W22, W23⟩, ⟨W30, W31, W32, W33⟩, ⟨W40, W41, W42, W43⟩⟩, ⟨⟨Z00, Z01, Z02, Z03⟩, ⟨Z10, Z11, Z12, Z13⟩, ⟨Z20, Z21, Z22, Z23⟩, ⟨Z30, Z31, Z32, Z33⟩, ⟨Z40, Z41, Z42, Z43⟩⟩⟩
  iapply (part13_spec I K c f0) $$ [HO G0 G1 G2 G3 X0 X1 HC]
  · isplitr; · iexact HR
    isplitl [HO]; · iexact HO
    isplitl [G0 G1 G2 G3]
    · isplitl [G0]; · iexact G0
      isplitl [G1]; · iexact G1
      isplitl [G2]; · iexact G2
      iexact G3
    isplitl [X0]; · iexact X0
    isplitl [X1]; · iexact X1
    iexact HC
  iintro ⟨HO, X0, X1, HC⟩
  try dsimp only
  iapply (part14_spec I c f0 f1 f2 _) $$ [HC X2 X3 A0 A1 A2 B0 B1]
  · isplitl [HC]; · iexact HC
    isplitl [X2]; · iexact X2
    isplitl [X3]; · iexact X3
    isplitl [A0 A1 A2]
    · isplitl [A0]; · iexact A0
      isplitl [A1]; · iexact A1
      iexact A2
    isplitl [B0]; · iexact B0
    iexact B1
  iintro ⟨HC, X2, X3, ⟨A0, A1, A2⟩, B0, B1⟩
  try dsimp only
  iapply (part15_spec I c f1 f2 f3 f4) $$ [X2 X3 A0 A1 A2 A3 B0 B1 B2 B3 H3 H4]
  · isplitl [X2]; · iexact X2
    isplitl [X3]; · iexact X3
    isplitl [A0 A1 A2 A3]
    · isplitl [A0]; · iexact A0
      isplitl [A1]; · iexact A1
      isplitl [A2]; · iexact A2
      iexact A3
    isplitl [B0 B1 B2 B3]
    · isplitl [B0]; · iexact B0
      isplitl [B1]; · iexact B1
      isplitl [B2]; · iexact B2
      iexact B3
    isplitl [H3]; · iexact H3
    iexact H4
  iintro ⟨X2, X3, ⟨HA, A0, A1, A2, A3⟩, ⟨HB, B0, B1, B2, B3⟩, H3, H4⟩
  try dsimp only
  ihave HC := (Entails.of_eq (cb_split I c)) $$ HC
  icases HC with ⟨HC, C0, C1, C2, C3⟩
  iapply (part16_spec I K c f4 _) $$ [HO HBC HBP T00 T01 T02 T03 T10 T11 T12 T13 T20 T21 T22 T23 C0 C1 C2 C3 A0 A1 A2 A3 B0 B1 B2 B3 H4 X4 X5 X6]
  · isplitr; · iexact HR
    isplitl [HO]; · iexact HO
    isplitl [HBC HBP]
    · isplitl [HBC]; · iexact HBC
      iexact HBP
    isplitl [T00 T01 T02 T03 T10 T11 T12 T13 T20 T21 T22 T23]
    · isplitl [T00 T01 T02 T03]
      · isplitl [T00]; · iexact T00
        isplitl [T01]; · iexact T01
        isplitl [T02]; · iexact T02
        iexact T03
      isplitl [T10 T11 T12 T13]
      · isplitl [T10]; · iexact T10
        isplitl [T11]; · iexact T11
        isplitl [T12]; · iexact T12
        iexact T13
      isplitl [T20]; · iexact T20
      isplitl [T21]; · iexact T21
      isplitl [T22]; · iexact T22
      iexact T23
    isplitl [C0 C1 C2 C3 A0 A1 A2 A3 B0 B1 B2 B3]
    · isplitl [C0 C1 C2 C3]
      · isplitl [C0]; · iexact C0
        isplitl [C1]; · iexact C1
        isplitl [C2]; · iexact C2
        iexact C3
      isplitl [A0 A1 A2 A3]
      · isplitl [A0]; · iexact A0
        isplitl [A1]; · iexact A1
        isplitl [A2]; · iexact A2
        iexact A3
      isplitl [B0]; · iexact B0
      isplitl [B1]; · iexact B1
      isplitl [B2]; · iexact B2
      iexact B3
    isplitl [H4]; · iexact H4
    isplitl [X4]; · iexact X4
    isplitl [X5]; · iexact X5
    iexact X6
  iintro ⟨HO, HBP, ⟨⟨C00, C01, C02, C03⟩, ⟨C10, C11, C12, C13⟩, ⟨C20, C21, C22, C23⟩⟩, ⟨⟨L30, L31, L32, L33⟩, ⟨L40, L41, L42, L43⟩⟩, H4, X4, X5, X6⟩
  try dsimp only
  iapply (part17_spec I K c) $$ [HO W00 W01 W02 W03 W10 W11 W12 W13 W20 W21 W22 W23 X7 HC H3 H4]
  · isplitr; · iexact HR
    isplitl [HO]; · iexact HO
    isplitl [W00 W01 W02 W03 W10 W11 W12 W13 W20 W21 W22 W23]
    · isplitl [W00 W01 W02 W03]
      · isplitl [W00]; · iexact W00
        isplitl [W01]; · iexact W01
        isplitl [W02]; · iexact W02
        iexact W03
      isplitl [W10 W11 W12 W13]
      · isplitl [W10]; · iexact W10
        isplitl [W11]; · iexact W11
        isplitl [W12]; · iexact W12
        iexact W13
      isplitl [W20]; · iexact W20
      isplitl [W21]; · iexact W21
      isplitl [W22]; · iexact W22
      iexact W23
    isplitl [X7]; · iexact X7
    isplitl [HC]; · iexact HC
    isplitl [H3]; · iexact H3
    iexact H4
  iintro ⟨HO, ⟨HP0, HP1, HP2⟩, X7, HC, H3, H4⟩
  try dsimp only
  iapply (part18_spec I c) $$ [H3 H4]
  · isplitl [H3]; · iexact H3
    iexact H4
  iintro ⟨H3, H4⟩
  try dsimp only
  iapply (part19_spec I c f5) $$ [D00 D01]
  · isplitl [D00]; · iexact D00
    iexact D01
  iintro ⟨D00, D01⟩
  try dsimp only
  iapply (part20_spec I K c f5) $$ [HO D00 D01 D02 D03 T30 T31 T32 T33 L30 L31 L32 L33]
  · isplitr; · iexact HR
    isplitl [HO]; · iexact HO
    isplitl [D00 D01 D02 D03]
    · isplitl [D00]; · iexact D00
      isplitl [D01]; · iexact D01
      isplitl [D02]; · iexact D02
      iexact D03
    isplitl [T30 T31 T32 T33]
    · isplitl [T30]; · iexact T30
      isplitl [T31]; · iexact T31
      isplitl [T32]; · iexact T32
      iexact T33
    isplitl [L30]; · iexact L30
    isplitl [L31]; · iexact L31
    isplitl [L32]; · iexact L32
    iexact L33
  iintro ⟨HO, E0, C30, S1, S2, S3⟩
  try dsimp only
  iapply (part21_spec I K c f5) $$ [HO S1 S2 S3 D10]
  · isplitr; · iexact HR
    isplitl [HO]; · iexact HO
    isplitl [S1 S2 S3]
    · isplitl [S1]; · iexact S1
      isplitl [S2]; · iexact S2
      iexact S3
    iexact D10
  iintro ⟨HO, ⟨C31, C32, C33⟩, D10⟩
  try dsimp only
  iapply (part22_spec I c f5) $$ [D11 D12]
  · isplitl [D11]; · iexact D11
    iexact D12
  iintro ⟨D11, D12⟩
  try dsimp only
  iapply (part23_spec I K c f5) $$ [HO D10 D11 D12 D13 T40 T41 T42 T43 L40 L41 L42 L43 W30]
  · isplitr; · iexact HR
    isplitl [HO]; · iexact HO
    isplitl [D10 D11 D12 D13]
    · isplitl [D10]; · iexact D10
      isplitl [D11]; · iexact D11
      isplitl [D12]; · iexact D12
      iexact D13
    isplitl [T40 T41 T42 T43]
    · isplitl [T40]; · iexact T40
      isplitl [T41]; · iexact T41
      isplitl [T42]; · iexact T42
      iexact T43
    isplitl [L40 L41 L42 L43]
    · isplitl [L40]; · iexact L40
      isplitl [L41]; · iexact L41
      isplitl [L42]; · iexact L42
      iexact L43
    iexact W30
  iintro ⟨HO, E1, ⟨C40, C41, C42, C43⟩, W30⟩
  try dsimp only
  iapply (part24_spec I K c f8) $$ [HO W30 W31 W32 W33 E0 Q0]
  · isplitr; · iexact HR
    isplitl [HO]; · iexact HO
    isplitl [W30]; · iexact W30
    isplitl [W31 W32 W33]
    · isplitl [W31]; · iexact W31
      isplitl [W32]; · iexact W32
      iexact W33
    isplitl [E0]; · iexact E0
    iexact Q0
  iintro ⟨HO, HP3, E0, Q0⟩
  try dsimp only
  iapply (part25_spec I K c) $$ [HO W40 W41 W42 W43 E1]
  · isplitr; · iexact HR
    isplitl [HO]; · iexact HO
    isplitl [W40 W41 W42 W43]
    · isplitl [W40]; · iexact W40
      isplitl [W41]; · iexact W41
      isplitl [W42]; · iexact W42
      iexact W43
    iexact E1
  iintro ⟨HO, HP4, E1⟩
  try dsimp only
  iapply (wp_load_at c (n := 8) (hn := rfl) (off' := ![256 * (1 : Fin 2).val, 0]) rfl (out_in 1)) $$ Q1
  iintro Q1
  iapply (wp_store_at c (n := 8) (hn := rfl) (off' := ![256 * (1 : Fin 2).val, 0]) rfl (out_in 1) (outAt I c) (rd_out I c 1)) $$ Q1
  iintro Q1
  ihave W00 := (mk_wait c 0 0) $$ [C00 Z00]
  · isplitl [C00]; · iexact C00
    iexact Z00
  ihave W01 := (mk_wait c 0 1) $$ [C01 Z01]
  · isplitl [C01]; · iexact C01
    iexact Z01
  ihave W02 := (mk_wait c 0 2) $$ [C02 Z02]
  · isplitl [C02]; · iexact C02
    iexact Z02
  ihave W03 := (mk_wait c 0 3) $$ [C03 Z03]
  · isplitl [C03]; · iexact C03
    iexact Z03
  ihave W10 := (mk_wait c 1 0) $$ [C10 Z10]
  · isplitl [C10]; · iexact C10
    iexact Z10
  ihave W11 := (mk_wait c 1 1) $$ [C11 Z11]
  · isplitl [C11]; · iexact C11
    iexact Z11
  ihave W12 := (mk_wait c 1 2) $$ [C12 Z12]
  · isplitl [C12]; · iexact C12
    iexact Z12
  ihave W13 := (mk_wait c 1 3) $$ [C13 Z13]
  · isplitl [C13]; · iexact C13
    iexact Z13
  ihave W20 := (mk_wait c 2 0) $$ [C20 Z20]
  · isplitl [C20]; · iexact C20
    iexact Z20
  ihave W21 := (mk_wait c 2 1) $$ [C21 Z21]
  · isplitl [C21]; · iexact C21
    iexact Z21
  ihave W22 := (mk_wait c 2 2) $$ [C22 Z22]
  · isplitl [C22]; · iexact C22
    iexact Z22
  ihave W23 := (mk_wait c 2 3) $$ [C23 Z23]
  · isplitl [C23]; · iexact C23
    iexact Z23
  ihave W30 := (mk_wait c 3 0) $$ [C30 Z30]
  · isplitl [C30]; · iexact C30
    iexact Z30
  ihave W31 := (mk_wait c 3 1) $$ [C31 Z31]
  · isplitl [C31]; · iexact C31
    iexact Z31
  ihave W32 := (mk_wait c 3 2) $$ [C32 Z32]
  · isplitl [C32]; · iexact C32
    iexact Z32
  ihave W33 := (mk_wait c 3 3) $$ [C33 Z33]
  · isplitl [C33]; · iexact C33
    iexact Z33
  ihave W40 := (mk_wait c 4 0) $$ [C40 Z40]
  · isplitl [C40]; · iexact C40
    iexact Z40
  ihave W41 := (mk_wait c 4 1) $$ [C41 Z41]
  · isplitl [C41]; · iexact C41
    iexact Z41
  ihave W42 := (mk_wait c 4 2) $$ [C42 Z42]
  · isplitl [C42]; · iexact C42
    iexact Z42
  ihave W43 := (mk_wait c 4 3) $$ [C43 Z43]
  · isplitl [C43]; · iexact C43
    iexact Z43
  iapply (wait5_step I K c (p := 0) (gd_iff c 0) [] (fun j => nil_lt _) (fun h => sem_cs 0 rfl inb_S4_S1_0) (fun h => sem_ks 0 rfl inb_S4_S1_0) (fun h => sem_vs 0 rfl inb_S4_S1_0)
      (fun h => sem_os0 0 rfl inb_S2x4_S1x1_0_0) (fun h => sem_os1 0 rfl inb_S2x4_S1x1_1_0) cr_c cr_k' cr_v' cr_o0 cr_o1) $$ [HO W00 W10 W20 W30 W40]
  · isplitr; · iexact HR
    isplitl [HO]; · iexact HO
    isplitl [W00]; · iexact W00
    isplitl [W10]; · iexact W10
    isplitl [W20]; · iexact W20
    isplitl [W30]; · iexact W30
    iexact W40
  iintro ⟨HO, W00, W10, W20, W30, W40⟩
  iapply (wait5_step I K c (p := 1) (gd_iff c 1) [] (fun j => nil_lt _) (fun h => sem_cs 1 rfl inb_S4_S1_1) (fun h => sem_ks 1 rfl inb_S4_S1_1) (fun h => sem_vs 1 rfl inb_S4_S1_1)
      (fun h => sem_os0 1 rfl inb_S2x4_S1x1_0_1) (fun h => sem_os1 1 rfl inb_S2x4_S1x1_1_1) cr_c cr_k' cr_v' cr_o0 cr_o1) $$ [HO W01 W11 W21 W31 W41]
  · isplitr; · iexact HR
    isplitl [HO]; · iexact HO
    isplitl [W01]; · iexact W01
    isplitl [W11]; · iexact W11
    isplitl [W21]; · iexact W21
    isplitl [W31]; · iexact W31
    iexact W41
  iintro ⟨HO, W01, W11, W21, W31, W41⟩
  iapply (wait5_step I K c (p := 2) (gd_iff c 2) [] (fun j => nil_lt _) (fun h => sem_cs 2 rfl inb_S4_S1_2) (fun h => sem_ks 2 rfl inb_S4_S1_2) (fun h => sem_vs 2 rfl inb_S4_S1_2)
      (fun h => sem_os0 2 rfl inb_S2x4_S1x1_0_2) (fun h => sem_os1 2 rfl inb_S2x4_S1x1_1_2) cr_c cr_k' cr_v' cr_o0 cr_o1) $$ [HO W02 W12 W22 W32 W42]
  · isplitr; · iexact HR
    isplitl [HO]; · iexact HO
    isplitl [W02]; · iexact W02
    isplitl [W12]; · iexact W12
    isplitl [W22]; · iexact W22
    isplitl [W32]; · iexact W32
    iexact W42
  iintro ⟨HO, W02, W12, W22, W32, W42⟩
  iapply (wait5_step I K c (p := 3) (gd_iff c 3) [] (fun j => nil_lt _) (fun h => sem_cs 3 rfl inb_S4_S1_3) (fun h => sem_ks 3 rfl inb_S4_S1_3) (fun h => sem_vs 3 rfl inb_S4_S1_3)
      (fun h => sem_os0 3 rfl inb_S2x4_S1x1_0_3) (fun h => sem_os1 3 rfl inb_S2x4_S1x1_1_3) cr_c cr_k' cr_v' cr_o0 cr_o1) $$ [HO W03 W13 W23 W33 W43]
  · isplitr; · iexact HR
    isplitl [HO]; · iexact HO
    isplitl [W03]; · iexact W03
    isplitl [W13]; · iexact W13
    isplitl [W23]; · iexact W23
    isplitl [W33]; · iexact W33
    iexact W43
  iintro ⟨HO, W03, W13, W23, W33, W43⟩
  iapply (wp_done c rfl)
  isplitl [HO]; · iexact HO
  isplitl [X0 X1 X2 X3 X4 X5 X6 X7]
  · isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  isplitl [HC HA HB H3 H4 E0 E1]
  · isplitl [HC]; · iexact HC
    isplitl [HA]; · iexact HA
    isplitl [HB]; · iexact HB
    isplitl [H3]; · iexact H3
    isplitl [H4]; · iexact H4
    isplitl [E0]; · iexact E0
    iexact E1
  isplitl [Q0 Q1]
  · isplitl [Q0]; · iexact Q0
    iexact Q1
  isplitl [HBP]; · iexact HBP
  isplitl [HP0 HP1 HP2 HP3 HP4]
  · isplitl [HP0]; · iexact HP0
    isplitl [HP1]; · iexact HP1
    isplitl [HP2]; · iexact HP2
    isplitl [HP3]; · iexact HP3
    iexact HP4
  isplitl [W00 W01 W02 W03]
  · isplitl [W00]; · iexact W00
    isplitl [W01]; · iexact W01
    isplitl [W02]; · iexact W02
    iexact W03
  isplitl [W10 W11 W12 W13]
  · isplitl [W10]; · iexact W10
    isplitl [W11]; · iexact W11
    isplitl [W12]; · iexact W12
    iexact W13
  isplitl [W20 W21 W22 W23]
  · isplitl [W20]; · iexact W20
    isplitl [W21]; · iexact W21
    isplitl [W22]; · iexact W22
    iexact W23
  isplitl [W30 W31 W32 W33]
  · isplitl [W30]; · iexact W30
    isplitl [W31]; · iexact W31
    isplitl [W32]; · iexact W32
    iexact W33
  isplitl [W40]; · iexact W40
  isplitl [W41]; · iexact W41
  isplitl [W42]; · iexact W42
  iexact W43

end Body

end Cert.Mla
end
-- ==== Proof.Memory.lean ====
/-
The scratch buffers at the start and at the end: split into the pieces the body works on, and put together again.
-/
module

public import proofs.«01_k».proof.Proof.Body

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (I : Dev nD → Ins F) (K : Dev nD × Fin 41 → ℕ)

section Memory
variable (c : Dev nD)

omit [FloatOps F] in
/-- A buffer's elements are those of the parts of a partition. -/
theorem pts_parts {T : Type} [Fintype T] [DecidableEq T] (b : Ref sig .tc) (J : T → Finset b.ty.Idx) {S : Finset b.ty.Idx}
    (hd : ∀ t t', t ≠ t' → Disjoint (J t) (J t')) (hc : Finset.univ.biUnion J = S) (q : PosShare TreeShare) (f : b.ty.Contents (Elt F)) :
    pts c b S q f = bigSep Finset.univ fun t => pts c b (J t) q f := by
  subst hc
  exact pointsTo_biUnion (Ix := Unit) (Name := ℕ) (U := UU) (Lvl := ℕ) (Val := Elt F) (ℓ := (c : Thread nD τ).loc b) (q := q) (f := f)
    Finset.univ J (fun t _ t' _ h => hd t t' h)

/-- The buffers of four slots, held whole. -/
theorem slots0 (f : Vec F S4x512x64 .bf16) : pts c cc0_scratch0 Finset.univ fullShare f
    = bigSep Finset.univ fun p : Fin 4 => pts (F := F) c cc0_scratch0 (slotR 512 64 p).set fullShare f :=
  pts_parts c cc0_scratch0 _ (slot_disjoint 512 64) (slot_cover 512 64) _ f
theorem slots1 (f : Vec F S4x64x256 .bf16) : pts c cc0_scratch1 Finset.univ fullShare f = bigSep Finset.univ fun p : Fin 4 => sl1 (F := F) c p f :=
  pts_parts c cc0_scratch1 _ (slot_disjoint 64 256) (slot_cover 64 256) _ f
theorem slots2 (f : Vec F S4x64x256 .bf16) : pts c cc0_scratch2 Finset.univ fullShare f = bigSep Finset.univ fun p : Fin 4 => sl2 (F := F) c p f :=
  pts_parts c cc0_scratch2 _ (slot_disjoint 64 256) (slot_cover 64 256) _ f
theorem slots3 (f : Vec F S4x64x256 .bf16) : pts c cc0_scratch3 Finset.univ fullShare f = bigSep Finset.univ fun p : Fin 4 => sl3 (F := F) c p f :=
  pts_parts c cc0_scratch3 _ (slot_disjoint 64 256) (slot_cover 64 256) _ f
theorem slots4 (f : Vec F S4x64x256 .bf16) : pts c cc0_scratch4 Finset.univ fullShare f = bigSep Finset.univ fun p : Fin 4 => sl4 (F := F) c p f :=
  pts_parts c cc0_scratch4 _ (slot_disjoint 64 256) (slot_cover 64 256) _ f
theorem slots5 (f : Vec F S4x512x256 .bf16) : pts c cc0_scratch5 Finset.univ fullShare f
    = bigSep Finset.univ fun p : Fin 4 => iprop(pts (F := F) c cc0_scratch5 (halfR p 0).set fullShare f ∗ pts (F := F) c cc0_scratch5 (halfR p 1).set fullShare f) := by
  rw [pts_parts c cc0_scratch5 (fun p => (slotR 512 256 p).set) (slot_disjoint 512 256) (slot_cover 512 256)]
  refine bigSep_congr fun p _ => ?_
  rw [pts_parts c cc0_scratch5 (fun b : Fin 2 => (halfR p b).set) (half_disjoint p) (half_cover p)]
  exact bigSep_univ_eq_bigSepL [0, 1] (by decide) (by decide) _
theorem out_join (f : Vec F S512x1024 .f32) : pts c cc0_stg8_0 Finset.univ fullShare f = outs c f := by
  rw [pts_parts c cc0_stg8_0 (fun b : Fin 2 => (outR b).set) out_disjoint out_cover]
  exact bigSep_univ_eq_bigSepL [0, 1] (by decide) (by decide) _

/-- The scratch buffers whole, at some contents. -/
def scr : sProp 𝕄 :=
  iprop((∃ f : Vec F S4x512x64 .bf16, pts c cc0_scratch0 Finset.univ fullShare f) ∗ (∃ f : Vec F S4x64x256 .bf16, pts c cc0_scratch1 Finset.univ fullShare f)
    ∗ (∃ f : Vec F S4x64x256 .bf16, pts c cc0_scratch2 Finset.univ fullShare f) ∗ (∃ f : Vec F S4x64x256 .bf16, pts c cc0_scratch3 Finset.univ fullShare f)
    ∗ (∃ f : Vec F S4x64x256 .bf16, pts c cc0_scratch4 Finset.univ fullShare f) ∗ (∃ f : Vec F S4x512x256 .bf16, pts c cc0_scratch5 Finset.univ fullShare f))

theorem heads_half (b : Fin 2) (f : Vec F S4x512x256 .bf16) :
    pts c cc0_scratch5 (halfR (yc c) b).set fullShare f = all4 (fun h => hd c b h f) := by
  rw [head_join, bigSep_4]

/-- Where peer `p`'s transfers will land, of all five exchanges. -/
theorem lands (p : Fin 4) : (iprop(on c p (land 0 c p) ∗ on c p (land 1 c p) ∗ on c p (land 2 c p) ∗ on c p (land 3 c p) ∗ on c p (land 4 c p)) : sProp 𝕄)
    ⊢ on c p (bigSep Finset.univ fun k : Chan => land (F := F) k c p) := by
  rw [bigSep_5, on_sep, on_sep, on_sep, on_sep]

theorem land_in0 (f : Vec F S4x512x64 .bf16) :
    pts c cc0_scratch0 Finset.univ fullShare f ⊢ iprop(pts c cc0_scratch0 (slotR 512 64 (yc c)).set fullShare f ∗ bigSep Finset.univ fun p : Fin 4 => on c p (land (F := F) 0 c p)) := by
  rw [slots0, own_split c]
  refine sep_mono_right (bigSep_mono fun p _ => on_mono ?_)
  show _ ⊢ iprop(∃ f, pts c cc0_scratch0 (slotR 512 64 p).set fullShare f)
  iintro H; iexists f; iexact H
theorem land_in3 (f : Vec F S4x64x256 .bf16) :
    pts c cc0_scratch3 Finset.univ fullShare f ⊢ iprop(sl3 c (yc c) f ∗ bigSep Finset.univ fun p : Fin 4 => on c p (land (F := F) 1 c p)) := by
  rw [slots3, own_split c]
  refine sep_mono_right (bigSep_mono fun p _ => on_mono ?_)
  show _ ⊢ iprop(∃ f, pts c cc0_scratch3 (slotR 64 256 p).set fullShare f)
  iintro H; iexists f; iexact H
theorem land_in4 (f : Vec F S4x64x256 .bf16) :
    pts c cc0_scratch4 Finset.univ fullShare f ⊢ iprop(sl4 c (yc c) f ∗ bigSep Finset.univ fun p : Fin 4 => on c p (land (F := F) 2 c p)) := by
  rw [slots4, own_split c]
  refine sep_mono_right (bigSep_mono fun p _ => on_mono ?_)
  show _ ⊢ iprop(∃ f, pts c cc0_scratch4 (slotR 64 256 p).set fullShare f)
  iintro H; iexists f; iexact H
theorem land_in5 (f : Vec F S4x512x256 .bf16) :
    pts c cc0_scratch5 Finset.univ fullShare f ⊢ iprop((all4 (fun h => hd c 0 h f) ∗ all4 (fun h => hd c 1 h f))
      ∗ (bigSep Finset.univ fun p : Fin 4 => on c p (land (F := F) 3 c p)) ∗ bigSep Finset.univ fun p : Fin 4 => on c p (land (F := F) 4 c p)) := by
  rw [slots5, own_split c, heads_half, heads_half, ← bigSep_sep']
  refine sep_mono_right (bigSep_mono fun p _ => ?_)
  rw [← on_sep]
  refine on_mono ?_
  show _ ⊢ iprop((∃ f, pts c cc0_scratch5 (halfR p 0).set fullShare f) ∗ (∃ f, pts c cc0_scratch5 (halfR p 1).set fullShare f))
  iintro ⟨H0, H1⟩
  isplitl [H0]; · iexists f; iexact H0
  iexists f; iexact H1

theorem scr_in : scr (F := F) c ⊢ iprop(∃ f0 f1 f2 f3 f4 f5, bufs0 c f0 f1 f2 f3 f4 f5
    ∗ bigSep Finset.univ fun p : Fin 4 => on c p (bigSep Finset.univ fun k : Chan => land (F := F) k c p)) := by
  unfold scr bufs0
  iintro ⟨⟨%f0, H0⟩, ⟨%f1, H1⟩, ⟨%f2, H2⟩, ⟨%f3, H3⟩, ⟨%f4, H4⟩, ⟨%f5, H5⟩⟩
  ihave G0 := (land_in0 c f0) $$ H0
  ihave G1 := (Entails.of_eq ((slots1 c f1).trans (bigSep_4 _))) $$ H1
  ihave G2 := (Entails.of_eq ((slots2 c f2).trans (bigSep_4 _))) $$ H2
  ihave G3 := (land_in3 c f3) $$ H3
  ihave G4 := (land_in4 c f4) $$ H4
  ihave G5 := (land_in5 c f5) $$ H5
  icases G0 with ⟨G0, L0⟩
  icases G3 with ⟨G3, L1⟩
  icases G4 with ⟨G4, L2⟩
  icases G5 with ⟨⟨G5, G6⟩, L3, L4⟩
  iexists f0; iexists f1; iexists f2; iexists f3; iexists f4; iexists f5
  isplitl [G0 G1 G2 G3 G4 G5 G6]
  · isplitl [G0]; · iexact G0
    isplitl [G1]; · iexact G1
    isplitl [G2]; · iexact G2
    isplitl [G3]; · iexact G3
    isplitl [G4]; · iexact G4
    isplitl [G5]; · iexact G5
    iexact G6
  have h : (iprop((bigSep Finset.univ fun p : Fin 4 => on c p (land 0 c p)) ∗ (bigSep Finset.univ fun p : Fin 4 => on c p (land 1 c p))
      ∗ (bigSep Finset.univ fun p : Fin 4 => on c p (land 2 c p)) ∗ (bigSep Finset.univ fun p : Fin 4 => on c p (land 3 c p))
      ∗ (bigSep Finset.univ fun p : Fin 4 => on c p (land 4 c p))) : sProp 𝕄)
      ⊢ bigSep Finset.univ fun p : Fin 4 => on c p (bigSep Finset.univ fun k : Chan => land (F := F) k c p) := by
    rw [← bigSep_sep', ← bigSep_sep', ← bigSep_sep', ← bigSep_sep']
    exact bigSep_mono fun p _ => lands c p
  iapply h
  isplitl [L0]; · iexact L0
  isplitl [L1]; · iexact L1
  isplitl [L2]; · iexact L2
  isplitl [L3]; · iexact L3
  iexact L4

/-! ## At the end -/

/-- What the transfers of exchange `k` gave back. -/
abbrev bk (k : Chan) : sProp 𝕄 := all4 (sntX I c k)

theorem back0 : iprop(all4 (rdC I c) ∗ bk I c 0) ⊢ pts c cc0_scratch0 Finset.univ fullShare (CB I c) := by
  rw [← rdC_all, slots0, own_split c, cb_split, bigSep_4]
  show _ ⊢ iprop((_ ∗ _) ∗ all4 (fun p => on c p (recvd I 0 c p)))
  iintro ⟨⟨H1, H2⟩, H3⟩
  isplitl [H1 H3]
  · isplitl [H1]; · iexact H1
    iexact H3
  iexact H2
theorem back1 : iprop(sl1 c (yc c) (WKS I c) ∗ bk I c 1) ⊢ pts c cc0_scratch1 Finset.univ fullShare (WKS I c) := by
  rw [slots1, own_split c, bigSep_4]; exact BI.Entails.refl _
theorem back2 : iprop(sl2 c (yc c) (WVS I c) ∗ bk I c 2) ⊢ pts c cc0_scratch2 Finset.univ fullShare (WVS I c) := by
  rw [slots2, own_split c, bigSep_4]; exact BI.Entails.refl _
theorem back5 : iprop((all4 (rdO I c 0) ∗ bk I c 3) ∗ (all4 (rdO I c 1) ∗ bk I c 4)) ⊢ pts c cc0_scratch5 Finset.univ fullShare (OB I c) := by
  have e : (fun p : Fin 4 => on c p (iprop(pts (F := F) c cc0_scratch5 (halfR p 0).set fullShare (OB I c) ∗ pts (F := F) c cc0_scratch5 (halfR p 1).set fullShare (OB I c))))
      = fun p => iprop(on c p (xPay I true 3 c p) ∗ on c p (xPay I true 4 c p)) := funext fun p => on_sep c p _ _
  rw [← rdO_all0, ← rdO_all1, slots5, own_split c, heads_half, heads_half, half_split0, half_split1, e, bigSep_sep', bigSep_4, bigSep_4]
  iintro ⟨⟨⟨H1, H2⟩, H3⟩, ⟨H4, H5⟩, H6⟩
  isplitl [H1 H3 H4 H6]
  · isplitl [H1 H3]
    · isplitl [H1]; · iexact H1
      iexact H3
    isplitl [H4]; · iexact H4
    iexact H6
  isplitl [H2]; · iexact H2
  iexact H5

theorem scr_out : iprop(bufs1 I c ∗ bk I c 0 ∗ bk I c 1 ∗ bk I c 2 ∗ bk I c 3 ∗ bk I c 4) ⊢ scr (F := F) c := by
  unfold scr bufs1
  iintro ⟨⟨H0, H1, H2, H3, H4, H5, H6⟩, B0, B1, B2, B3, B4⟩
  isplitl [H0 B0]
  · iexists (CB I c); iapply (back0 I c); isplitl [H0]; · iexact H0
    iexact B0
  isplitl [H1 B1]
  · iexists (WKS I c); iapply (back1 I c); isplitl [H1]; · iexact H1
    iexact B1
  isplitl [H2 B2]
  · iexists (WVS I c); iapply (back2 I c); isplitl [H2]; · iexact H2
    iexact B2
  isplitl [H3]
  · iexists (WK I c); iapply (Entails.of_eq ((slots3 c (WK I c)).trans (bigSep_4 _)).symm); iexact H3
  isplitl [H4]
  · iexists (WV I c); iapply (Entails.of_eq ((slots4 c (WV I c)).trans (bigSep_4 _)).symm); iexact H4
  iexists (OB I c); iapply (back5 I c)
  isplitl [H5 B3]
  · isplitl [H5]; · iexact H5
    iexact B3
  isplitl [H6]; · iexact H6
  iexact B4

end Memory

end Cert.Mla
end
-- ==== Proof.Ghost.lean ====
/-
The exchange's ghost state: minted for all devices at once, every token dealt to the device that spends it; the launch credit; the cells closed at the end.
-/
module

public import proofs.«01_k».proof.Proof.Memory

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (I : Dev nD → Ins F) (K : Dev nD × Fin 41 → ℕ)

/-! ## The cells, by side, exchange and peer -/

abbrev BKP : Type := Bool × Chan × Fin 4

def ixE (x : BKP) : Fin 40 := ⟨(bif x.1 then rOff x.2.1 else sOff x.2.1) + x.2.2.val, by revert x; decide +kernel⟩
theorem ixE_bij : Function.Bijective ixE := by decide +kernel
def cellE : BKP ≃ Fin 40 := Equiv.ofBijective ixE ixE_bij
theorem osem_cellE (x : BKP) : osem (cellE x) = .dma (xs x.1 x.2.1 x.2.2) := by
  show osem (ixE x) = _; revert x; decide +kernel

section Sums
variable {M : Type} [URA M]

theorem bigSep_side (Φ : Bool → Chan → Fin 4 → sProp M) :
    (bigSep Finset.univ fun x : BKP => Φ x.1 x.2.1 x.2.2)
      = iprop((bigSep Finset.univ fun k : Chan => bigSep Finset.univ fun p : Fin 4 => Φ false k p)
        ∗ (bigSep Finset.univ fun k : Chan => bigSep Finset.univ fun p : Fin 4 => Φ true k p)) := by
  rw [bigSep_univ_prod]
  refine (bigSep_univ_eq_bigSepL [false, true] (by decide) (by decide) _).trans ?_
  show iprop((bigSep Finset.univ fun y : Chan × Fin 4 => Φ false y.1 y.2) ∗ (bigSep Finset.univ fun y : Chan × Fin 4 => Φ true y.1 y.2)) = _
  rw [bigSep_univ_prod, bigSep_univ_prod]

theorem bigSep_40 (Φ : SemLoc sig → sProp M) :
    (bigSep Finset.univ fun i : Fin 40 => Φ (osem i)) = bigSep Finset.univ fun x : BKP => Φ (.dma (xs x.1 x.2.1 x.2.2)) := by
  rw [bigSep_univ_equiv cellE (fun i : Fin 40 => Φ (osem i))]
  exact bigSep_congr fun x _ => by rw [osem_cellE]

theorem bigSep_41 (Φ : SemLoc sig → sProp M) :
    (bigSep Finset.univ fun i : Fin 41 => Φ (csem i)) = iprop(Φ (.reg barS) ∗ bigSep Finset.univ fun i : Fin 40 => Φ (osem i)) := by
  rw [bigSep_univ_at (fun i : Fin 41 => Φ (csem i)) 0,
    show (Finset.univ.erase (0 : Fin 41)) = (Finset.univ : Finset (Fin 40)).map ⟨Fin.succ, Fin.succ_injective 40⟩ by decide +kernel, bigSep_map]
  rfl

theorem all5_eq (Y : Chan → Fin 4 → sProp M) : (bigSep Finset.univ fun k : Chan => bigSep Finset.univ fun p : Fin 4 => Y k p)
    = iprop((Y 0 0 ∗ Y 0 1 ∗ Y 0 2 ∗ Y 0 3) ∗ (Y 1 0 ∗ Y 1 1 ∗ Y 1 2 ∗ Y 1 3) ∗ (Y 2 0 ∗ Y 2 1 ∗ Y 2 2 ∗ Y 2 3)
      ∗ (Y 3 0 ∗ Y 3 1 ∗ Y 3 2 ∗ Y 3 3) ∗ (Y 4 0 ∗ Y 4 1 ∗ Y 4 2 ∗ Y 4 3)) := by
  rw [bigSep_5]; simp only [bigSep_4]
end Sums

theorem kcell_injective : Function.Injective (kcell : Dev nD × Fin 41 → GSem nD τ sig) := by
  rintro ⟨c, k⟩ ⟨c', k'⟩ h
  have h1 : c = c' := by have := congrArg (fun g : GSem nD τ sig => g.1.1) h; exact this
  have h2 : csem k = csem k' := congrArg Prod.snd h
  have hc : Function.Injective csem := by decide +kernel
  rw [h1, hc h2]
def exCells : Finset (GSem nD τ sig) := Finset.univ.map ⟨kcell, kcell_injective⟩

/-! ## Tokens -/

/-- A cell's duties: the barrier's by the signalling peer's coordinate, a DMA semaphore's its one transfer. -/
abbrev J : Type := Option (Bool × Chan)
def jsem : J → Fin 4 → SemLoc sig × Fin 4
  | none, p => (.reg barS, p)
  | some (b, k), p => (.dma (xs b k p), 0)
theorem jsem_injective : Function.Injective fun x : J × Fin 4 => jsem x.1 x.2 := by decide +kernel
abbrev tokOf (x : (Dev nD × Fin 4) × J) : GSem nD τ sig × ℕ × Fin 4 :=
  (((x.1.1 : Thread nD τ), (jsem x.2 x.1.2).1), 0, (jsem x.2 x.1.2).2)
theorem tokOf_injective : Function.Injective tokOf := by
  rintro ⟨⟨c, p⟩, j⟩ ⟨⟨c', p'⟩, j'⟩ h
  have h1 : c = c' := by have := congrArg (fun x : GSem nD τ sig × ℕ × Fin 4 => x.1.1.1) h; exact this
  have h2 : jsem j p = jsem j' p' :=
    Prod.ext (congrArg (fun x : GSem nD τ sig × ℕ × Fin 4 => x.1.2) h) (congrArg (fun x : GSem nD τ sig × ℕ × Fin 4 => x.2.2) h)
  have h3 : (j, p) = (j', p') := jsem_injective h2
  rw [h1, (Prod.mk.inj h3).1, (Prod.mk.inj h3).2]
def exToks : Finset (GSem nD τ sig × ℕ × Fin 4) := Finset.univ.map ⟨tokOf, tokOf_injective⟩

/-- The token of device `x.1`'s cell towards peer `x.2`, -/
abbrev tk (j : J) (x : Dev nD × Fin 4) : sProp 𝕄 := dutyTok ER ((x.1 : Thread nD τ), (jsem j x.2).1) 0 (jsem j x.2).2
/-- and the one device `x.1` spends on peer `x.2`: the peer's where the duty is met from outside, its own for a source. -/
def tk' (j : J) (x : Dev nD × Fin 4) : sProp 𝕄 :=
  match j with
  | some (false, _) => tk j x
  | _ => tk j (swapE x)

omit [FloatOps F] in
theorem toks_swap (j : J) : bigSep Finset.univ (fun x : Dev nD × Fin 4 => tk (F := F) j x) = bigSep Finset.univ fun x : Dev nD × Fin 4 => tk' (F := F) j x := by
  rcases j with _ | ⟨_ | _, k⟩
  · exact bigSep_univ_equiv swapE (fun x : Dev nD × Fin 4 => tk (F := F) none x)
  · rfl
  · exact bigSep_univ_equiv swapE (fun x : Dev nD × Fin 4 => tk (F := F) (some (true, k)) x)

/-- What device `c` spends, peer by peer. -/
def payToks (c : Dev nD) : sProp 𝕄 := bigSep Finset.univ fun p : Fin 4 => bigSep Finset.univ fun j : J => tk' (F := F) j (c, p)

omit [FloatOps F] in
theorem toks_deal : bigSep exToks (fun x => (dutyTok ER x.1 x.2.1 x.2.2 : sProp 𝕄)) = bigSep Finset.univ fun c : Dev nD => payToks (F := F) c := by
  unfold exToks payToks
  rw [bigSep_map, bigSep_univ_prod]
  show (bigSep Finset.univ fun x : Dev nD × Fin 4 => bigSep Finset.univ fun j : J => tk (F := F) j x) = _
  rw [bigSep_univ_comm (fun (x : Dev nD × Fin 4) (j : J) => tk (F := F) j x)]
  refine (bigSep_congr fun j _ => toks_swap (F := F) j).trans ?_
  rw [bigSep_univ_comm (fun (j : J) (x : Dev nD × Fin 4) => tk' (F := F) j x), bigSep_univ_prod]

theorem sep_flat {M : Type} [URA M] (P Q R : sProp M) : iprop((P ∗ Q) ∗ R) = iprop(P ∗ Q ∗ R) := equiv_iff.mp ⟨BI.sep_assoc, BI.sep_assoc'⟩
theorem bigSep_J {M : Type} [URA M] (Φ : J → sProp M) : bigSep Finset.univ Φ
    = iprop(Φ none ∗ (Φ (some (false, 0)) ∗ Φ (some (true, 0))) ∗ (Φ (some (false, 1)) ∗ Φ (some (true, 1))) ∗ (Φ (some (false, 2)) ∗ Φ (some (true, 2)))
      ∗ (Φ (some (false, 3)) ∗ Φ (some (true, 3))) ∗ (Φ (some (false, 4)) ∗ Φ (some (true, 4)))) := by
  refine (bigSep_univ_eq_bigSepL [none, some (false, 0), some (true, 0), some (false, 1), some (true, 1), some (false, 2), some (true, 2),
    some (false, 3), some (true, 3), some (false, 4), some (true, 4)] (by decide) (by decide) Φ).trans ?_
  show iprop(_ ∗ _ ∗ _ ∗ _ ∗ _ ∗ _ ∗ _ ∗ _ ∗ _ ∗ _ ∗ _) = _
  simp only [sep_flat]
  rfl

omit [FloatOps F] in
theorem to_emp (X : sProp 𝕄) : X ⊢ iprop(emp) := by
  have h : iprop(X ∗ emp) ⊢ (iprop(emp) : sProp 𝕄) := by iintro ⟨-, H⟩; iexact H
  rw [sep_none] at h; exact h
omit [FloatOps F] in
theorem on_intro (c : Dev nD) (p : Fin 4) (X : sProp 𝕄) : X ⊢ on c p X := by
  by_cases h : p = yc c
  · rw [on_self h]; exact to_emp X
  · rw [on_peer h]

/-- A peer's tokens, as the body takes them. -/
theorem payToks_at (c : Dev nD) (p : Fin 4) : (bigSep Finset.univ fun j : J => tk' (F := F) j (c, p))
    ⊢ iprop(on c p (dutyTok ER (barC (pr c p)) 0 (yc c)) ∗ tkX c 0 p ∗ tkX c 1 p ∗ tkX c 2 p ∗ tkX c 3 p ∗ tkX c 4 p) := by
  rw [bigSep_J]
  have h : tk' (F := F) none (c, p) ⊢ on c p (dutyTok ER (barC (pr c p)) 0 (yc c)) := on_intro c p (tk' (F := F) none (c, p))
  have hk : ∀ k : Chan, iprop(tk' (F := F) (some (false, k)) (c, p) ∗ tk' (F := F) (some (true, k)) (c, p)) ⊢ tkX c k p :=
    fun k => on_intro c p (iprop(tk' (F := F) (some (false, k)) (c, p) ∗ tk' (F := F) (some (true, k)) (c, p)))
  iintro ⟨H, H0, H1, H2, H3, H4⟩
  isplitl [H]; · iapply h; iexact H
  isplitl [H0]; · iapply (hk 0); iexact H0
  isplitl [H1]; · iapply (hk 1); iexact H1
  isplitl [H2]; · iapply (hk 2); iexact H2
  isplitl [H3]; · iapply (hk 3); iexact H3
  iapply (hk 4); iexact H4

theorem payToks_all (c : Dev nD) : payToks (F := F) c
    ⊢ iprop((bigSep Finset.univ fun p : Fin 4 => on c p (dutyTok ER (barC (pr c p)) 0 (yc c))) ∗ all5 (tkX c)) := by
  unfold payToks
  refine (bigSep_mono fun p _ => payToks_at c p).trans ?_
  rw [bigSep_sep', bigSep_sep', bigSep_sep', bigSep_sep', bigSep_sep']
  simp only [bigSep_4]
  exact BI.Entails.refl _

/-! ## The launch credit -/

def O₀ (c : Dev nD) : CellTallies nD τ sig Unit := tot c evAll

theorem tot_apply (c : Dev nD) (l : List Ev) (g : GSem nD τ sig) : tot c l g () = (l.map fun e => one c e g ()).sum := by
  induction l with
  | nil => rfl
  | cons e l ih =>
    show (tot c l + one c e) g () = _
    rw [Pi.add_apply, Finsupp.add_apply, ih, List.map_cons, List.sum_cons, Nat.add_comm]

theorem sum_tot (l : List Ev) (g : GSem nD τ sig) :
    (∑ d : Dev nD, tot d l g ()) = (l.map fun e => ∑ d : Dev nD, one d e g ()).sum := by
  induction l with
  | nil => exact Finset.sum_const_zero
  | cons e l ih =>
    rw [List.map_cons, List.sum_cons, ← ih, ← Finset.sum_add_distrib]
    exact Finset.sum_congr rfl fun d _ => by rw [tot_apply, tot_apply, List.map_cons, List.sum_cons]

theorem count_once : ∀ e : Ev, evAll.count e = 1 := by decide +kernel
/-- Every event is in the list once. -/
theorem sum_once (e₀ : Ev) (n : ℕ) (f : Ev → ℕ) (hf : ∀ e, f e = if e = e₀ then n else 0) : (evAll.map f).sum = n := by
  have h : ∀ (l : List Ev), (l.map f).sum = l.count e₀ * n := by
    intro l
    induction l with
    | nil => exact (Nat.zero_mul n).symm
    | cons e l ih =>
      rw [List.map_cons, List.sum_cons, ih, hf, List.count_cons, Nat.add_mul, Nat.add_comm]
      by_cases he : e = e₀
      · rw [if_pos he, if_pos (beq_iff_eq.mpr he), Nat.one_mul]
      · rw [if_neg he, if_neg (fun hb => he (beq_iff_eq.mp hb)), Nat.zero_mul]
  rw [h, count_once, Nat.one_mul]

theorem some_ne (k : Chan) : (some k : Option Chan) ≠ none := by intro h; cases h
theorem bar_ne_x (c d : Dev nD) (b : Bool) (k : Chan) (p : Fin 4) : barC d ≠ xC c b k p := fun h => by
  have := congrArg Prod.snd h; cases this
theorem bar_inj {c d : Dev nD} (h : barC c = barC d) : c = d := by
  have := congrArg (fun g : GSem nD τ sig => g.1.1) h; exact this
theorem x_inj {c d : Dev nD} {k k' : Chan} {p p' : Fin 4} (h : xC c true k p = xC d true k' p') : c = d ∧ k = k' ∧ p = p' := by
  have h1 := congrArg (fun g : GSem nD τ sig => g.1.1) h
  have h2 : (SemLoc.dma (xs true k p) : SemLoc sig) = .dma (xs true k' p') := congrArg Prod.snd h
  have h3 := (dec_xs true k p).symm.trans ((congrArg dec (SemLoc.dma.inj h2)).trans (dec_xs true k' p'))
  have h4 := Prod.mk.inj (Option.some.inj h3)
  exact ⟨h1, (Prod.mk.inj h4.2).1, (Prod.mk.inj h4.2).2⟩

theorem one_own {c : Dev nD} {e : Ev} (h : e.2 = yc c) (g : GSem nD τ sig) : one c e g () = 0 := by
  rw [show one c e = 0 from if_pos h]; rfl
theorem one_other {c : Dev nD} {e : Ev} (h : e.2 ≠ yc c) (g : GSem nD τ sig) : one c e g () = if g = evC c e then evN e else 0 := by
  rw [show one c e = tallyAt (evC c e) () (evN e) from if_neg h, tallyAt_apply]
  by_cases hg : g = evC c e
  · rw [if_pos ⟨hg, rfl⟩, if_pos hg]
  · rw [if_neg (fun x => hg x.1), if_neg hg]

theorem one_bar (d c : Dev nD) (e : Ev) : one d e (barC c) () = if e.1 = none ∧ e.2 ≠ yc d ∧ pr d e.2 = c then 1 else 0 := by
  by_cases hp : e.2 = yc d
  · rw [one_own hp, if_neg (fun h => h.2.1 hp)]
  rw [one_other hp]
  rcases e with ⟨_ | k, p⟩
  · show (if barC c = barC (pr d p) then 1 else 0) = _
    by_cases hc : pr d p = c
    · rw [if_pos (show barC c = barC (pr d p) by rw [hc]), if_pos ⟨rfl, hp, hc⟩]
    · rw [if_neg (fun h => hc (bar_inj (d := pr d p) h).symm), if_neg (fun h => hc h.2.2)]
  · show (if barC c = xC (pr d p) true k (yc d) then _ else 0) = _
    rw [if_neg (fun h => bar_ne_x (pr d p) c true k (yc d) h), if_neg (fun h => some_ne k h.1)]

theorem one_x (d c : Dev nD) (k : Chan) (p : Fin 4) (e : Ev) :
    one d e (xC c true k p) () = if d = pr c p then (if e = (some k, yc c) ∧ p ≠ yc c then N k else 0) else 0 := by
  by_cases hp : e.2 = yc d
  · rw [one_own hp]
    by_cases hd : d = pr c p
    · rw [if_pos hd, if_neg]
      rintro ⟨h1, h2⟩
      rw [h1, hd, yc_pr] at hp
      exact h2 hp.symm
    · rw [if_neg hd]
  rw [one_other hp]
  rcases e with ⟨_ | k', p'⟩
  · show (if xC c true k p = barC (pr d p') then _ else 0) = _
    rw [if_neg (fun h => bar_ne_x c (pr d p') true k p h.symm)]
    by_cases hd : d = pr c p
    · rw [if_pos hd, if_neg (fun h => some_ne k (congrArg Prod.fst h.1).symm)]
    · rw [if_neg hd]
  · by_cases hd : d = pr c p
    · rw [if_pos hd]
      have hyd : yc d = p := by rw [hd, yc_pr]
      by_cases he : ((some k', p') : Ev) = (some k, yc c)
      · have e1 : k' = k := Option.some.inj (congrArg Prod.fst he)
        have e2 : p' = yc c := congrArg Prod.snd he
        have hx : xC c true k p = xC (pr d p') true k' (yc d) := by rw [hyd, hd, e2, pr_back, e1]
        show (if xC c true k p = xC (pr d p') true k' (yc d) then _ else 0) = _
        rw [if_pos hx, if_pos ⟨he, fun h => hp (by rw [hyd, h]; exact e2)⟩]
        show N k' = N k; rw [e1]
      · rw [if_neg (show ¬(((some k', p') : Ev) = (some k, yc c) ∧ p ≠ yc c) from fun h => he h.1), if_neg]
        intro h
        obtain ⟨h1, h2, h3⟩ := x_inj (d := pr d p') h
        apply he
        rw [h1, yc_pr, h2]
    · rw [if_neg hd, if_neg]
      intro h
      obtain ⟨h1, h2, h3⟩ := x_inj (d := pr d p') h
      exact hd (by rw [h1, h3, pr_back])

theorem count_peers : ∀ (c : Dev nD) (p : Fin 4), (∑ d : Dev nD, if p ≠ yc d ∧ pr d p = c then 1 else 0) = if p = yc c then 3 else 0 := by decide +kernel

theorem owed_bar (c : Dev nD) : (∑ d : Dev nD, O₀ d (barC c) ()) = 3 := by
  unfold O₀
  rw [sum_tot]
  refine sum_once (none, yc c) 3 _ fun e => ?_
  rcases e with ⟨_ | k, p⟩
  · refine (Finset.sum_congr rfl fun d _ => (one_bar d c (none, p)).trans ?_).trans ((count_peers c p).trans ?_)
    · by_cases h : p ≠ yc d ∧ pr d p = c
      · rw [if_pos ⟨rfl, h⟩, if_pos h]
      · rw [if_neg (fun x => h x.2), if_neg h]
    · by_cases h : p = yc c
      · rw [if_pos h, if_pos (by rw [h])]
      · rw [if_neg h, if_neg (fun x => h (congrArg Prod.snd x))]
  · rw [if_neg (fun x => some_ne k (congrArg Prod.fst x))]
    refine (Finset.sum_congr rfl fun d _ => (one_bar d c (some k, p)).trans (if_neg fun h => some_ne k h.1)).trans Finset.sum_const_zero

theorem owed_x (c : Dev nD) (k : Chan) {p : Fin 4} (hp : p ≠ yc c) : (∑ d : Dev nD, O₀ d (xC c true k p) ()) = N k := by
  unfold O₀
  rw [sum_tot]
  refine sum_once (some k, yc c) (N k) _ fun e => ?_
  refine (Finset.sum_congr rfl fun d _ => one_x d c k p e).trans ?_
  rw [Finset.sum_ite_eq' Finset.univ (pr c p), if_pos (Finset.mem_univ _)]
  by_cases h : e = (some k, yc c)
  · rw [if_pos ⟨h, hp⟩, if_pos h]
  · rw [if_neg (fun x => h x.1), if_neg h]

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, owed_bar]

theorem launch_x (c : Dev nD) (k : Chan) {p : Fin 4} (hp : p ≠ yc c) :
    tallyOn (xC c true k p) (launchCredit (Pipeline.owing O₀) 0 (xC c true k p)) = (tallyAt (xC c true k p) () (N k) : CellTallies nD τ sig Unit) := by
  unfold tallyAt; refine congrArg _ (Finsupp.ext fun u => ?_); cases u
  rw [Pipeline.launchCredit_owing, Finsupp.single_eq_same, owed_x c k hp]

def lands' : Chan × Fin 4 ↪ SemLoc sig := ⟨fun y => .dma (xs true y.1 y.2), by decide +kernel⟩

theorem creds (c : Dev nD) : (Pipeline.launchCred O₀ c : sProp 𝕄)
    ⊢ iprop(cred (tallyAt (barC c) () 3) ∗ bigSep Finset.univ fun k : Chan => bigSep Finset.univ fun p : Fin 4 => on c p (credX (F := F) c true k p)) := by
  unfold Pipeline.launchCred
  rw [bigSep_univ_at _ (SemLoc.reg barS), launch_bar]
  refine sep_mono_right ?_
  have hsub : (Finset.univ.map lands') ⊆ Finset.univ.erase (SemLoc.reg barS : SemLoc sig) := by
    intro x hx
    obtain ⟨y, -, rfl⟩ := Finset.mem_map.mp hx
    exact Finset.mem_erase.mpr ⟨fun h => (by cases h), Finset.mem_univ _⟩
  refine (bigSep_subset hsub).trans ?_
  rw [bigSep_map, bigSep_univ_prod]
  refine bigSep_mono fun k _ => bigSep_mono fun p _ => ?_
  by_cases hp : p = yc c
  · rw [on_self hp]; exact to_emp _
  · rw [on_peer hp]; unfold credX; rw [← launch_x c k hp]
    exact BI.Entails.refl _

/-! ## The cells closed at the end -/

theorem close_bar (c : Dev nD) : iprop(recs I K ∗ atPos ER (barC c) 1 ∅ 0) ⊢ (|={Set.univ}=> semVal (barC c) 0 : sProp 𝕄) := by
  have h := Rounds.cell_close ER (Rd I) (Set.mem_univ (K (c, 0))) (fun h => h) (R := 1) (g := barC c) (fun r hr => duties_later I (barC c) r hr)
  exact (sep_mono_left (inv_b I K c)).trans h

theorem close_x (c : Dev nD) (b : Bool) (k : Chan) (p : Fin 4) : iprop(recs I K ∗ posX (F := F) c b k p) ⊢ (|={Set.univ}=> semVal (xC c b k p) 0 : sProp 𝕄) := by
  unfold posX
  refine (sep_mono_left (inv_x I K c b k p)).trans ?_
  by_cases hp : p = yc c
  · rw [if_pos hp]
    exact Rounds.cell_close ER (Rd I) (Set.mem_univ (K (c, cix b k p))) (fun h => h) (R := 0) (g := xC c b k p) (fun r _ => duties_own I c b k p hp r)
  · rw [if_neg hp]
    exact Rounds.cell_close ER (Rd I) (Set.mem_univ (K (c, cix b k p))) (fun h => h) (R := 1) (g := xC c b k p) (fun r hr => duties_later I (xC c b k p) r hr)

theorem close_side (c : Dev nD) (b : Bool) : iprop(recs I K ∗ all5 (posX (F := F) c b))
    ⊢ (|={Set.univ}=> bigSep Finset.univ fun k : Chan => bigSep Finset.univ fun p : Fin 4 => semVal (xC c b k p) 0 : sProp 𝕄) := by
  have e : all5 (posX (F := F) c b) = bigSep Finset.univ fun y : Chan × Fin 4 => posX (F := F) c b y.1 y.2 := by
    rw [bigSep_univ_prod]; exact (all5_eq (posX (F := F) c b)).symm
  rw [e, ← bigSep_univ_prod (fun y : Chan × Fin 4 => (semVal (xC c b y.1 y.2) 0 : sProp 𝕄))]
  exact (BI.bigSep_with_persistent (R := recs I K) fun y _ => close_x I K c b y.1 y.2).trans (bigSep_fupd _ _)

end Cert.Mla
end
-- ==== Proof.Launch.lean ====
/-
The launch: what every device starts from, the body's obligation, and the run of the whole mesh.
-/
module

public import proofs.«01_k».proof.Proof.Ghost
public import Idealize.ShloMosaic.Lib.Pipeline.CollectiveSegs

@[expose] public section

noncomputable section

namespace Cert.Mla

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F] [Named F]

local notation "𝕄" => MT nD τ sig Unit (Elt F) ℕ UU ℕ

variable (I : Dev nD → Ins F) (K : Dev nD × Fin 41 → ℕ)

open Idealize.ShloMosaic.Pipeline (Dat BodyObligation)

variable (m : (ℓ : Loc nD τ sig) → Buf (Elt F) ℓ) (ρ : Dev nD → PrngReg)

/-- The machine at the launch. -/
abbrev s₀ : MemSt nD τ sig (Elt F) := ⟨m, fun _ => 0, ρ⟩

/-- Every device's blocks of the arguments, as they lie in its memory. -/
def ins (c : Dev nD) : Ins F where
  x := m ((c : Thread nD τ).loc main_arg0)
  wdkv := m ((c : Thread nD τ).loc main_arg1)
  wuk := m ((c : Thread nD τ).loc main_arg2)
  wuv := m ((c : Thread nD τ).loc main_arg3)
  wq := m ((c : Thread nD τ).loc main_arg4)
  wqr := m ((c : Thread nD τ).loc main_arg5)
  wkr := m ((c : Thread nD τ).loc main_arg6)
  wo := m ((c : Thread nD τ).loc main_arg7)

/-! ## The proof data -/

/-- What the launch step deals device `c`. -/
def share (K : Dev nD × Fin 41 → ℕ) (c : Dev nD) : sProp 𝕄 :=
  iprop(((bigSep Finset.univ fun ck : Dev nD × Fin 41 => cellInv ER (Rd (ins m)) (K ck) (kcell ck))
      ∗ (bigSep Finset.univ fun ck : Dev nD × Fin 41 => reached ER (kcell ck) 0))
    ∗ (bigSep Finset.univ fun i : Fin 41 => atPos ER (kcell (c, i)) 0 ∅ 0) ∗ payToks c)
def G' (c : Dev nD) : sProp 𝕄 := iprop(∃ K, share m K c)

/-- What device `c`'s body starts from, beside its buffers. -/
def start (c : Dev nD) : sProp 𝕄 :=
  iprop(G' m c ∗ cred (tallyAt (barC c) () 3) ∗ (bigSep Finset.univ fun k : Chan => bigSep Finset.univ fun p : Fin 4 => on c p (credX (F := F) c true k p)) ∗ levAts L lv)
def Φ₀ (c : Dev nD) : sProp 𝕄 := iprop(start m c ∗ scr c)
/-- After the body: the scratch buffers, and every counter of the exchange at zero. -/
def Φ₁ (c : Dev nD) : sProp 𝕄 :=
  iprop(scr c ∗ semVal (barC c) 0 ∗ bigSep Finset.univ fun x : BKP => semVal (xC c x.1 x.2.1 x.2.2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m c).x
    | ⟨1, _⟩ => (ins m c).wdkv
    | ⟨2, _⟩ => (ins m c).wuk
    | ⟨3, _⟩ => (ins m c).wuv
    | ⟨4, _⟩ => (ins m c).wq
    | ⟨5, _⟩ => (ins m c).wqr
    | ⟨6, _⟩ => (ins m c).wkr
    | ⟨7, _⟩ => (ins m c).wo
    | ⟨8, _⟩ => outAt (ins m) c
    | ⟨_ + 9, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ c
    | ⟨_ + 1, _⟩ => 0

/-! An array staged whole holds in its staging buffer what it holds. -/

theorem before_0 (c : Dev nD) (d) : (dats m ρ 0 c).before (0 : Fin 9) t0_0 d = (ins m c).x := by
  have h : (cfg0.win (0 : Fin 9)).fetch t0_0 = true := rfl
  unfold Dat.before; rw [if_pos h]
  exact funext fun i => congrArg (m ((c : Thread nD τ).loc main_arg0)) (funext fun a => Fin.ext (by show 0 * _ + 1 * (i a).val = (i a).val; omega))
theorem before_1 (c : Dev nD) (d) : (dats m ρ 0 c).before (1 : Fin 9) t0_0 d = (ins m c).wdkv := by
  have h : (cfg0.win (1 : Fin 9)).fetch t0_0 = true := rfl
  unfold Dat.before; rw [if_pos h]
  exact funext fun i => congrArg (m ((c : Thread nD τ).loc main_arg1)) (funext fun a => Fin.ext (by show 0 * _ + 1 * (i a).val = (i a).val; omega))
theorem before_2 (c : Dev nD) (d) : (dats m ρ 0 c).before (2 : Fin 9) t0_0 d = (ins m c).wuk := by
  have h : (cfg0.win (2 : Fin 9)).fetch t0_0 = true := rfl
  unfold Dat.before; rw [if_pos h]
  exact funext fun i => congrArg (m ((c : Thread nD τ).loc main_arg2)) (funext fun a => Fin.ext (by show 0 * _ + 1 * (i a).val = (i a).val; omega))
theorem before_3 (c : Dev nD) (d) : (dats m ρ 0 c).before (3 : Fin 9) t0_0 d = (ins m c).wuv := by
  have h : (cfg0.win (3 : Fin 9)).fetch t0_0 = true := rfl
  unfold Dat.before; rw [if_pos h]
  exact funext fun i => congrArg (m ((c : Thread nD τ).loc main_arg3)) (funext fun a => Fin.ext (by show 0 * _ + 1 * (i a).val = (i a).val; omega))
theorem before_4 (c : Dev nD) (d) : (dats m ρ 0 c).before (4 : Fin 9) t0_0 d = (ins m c).wq := by
  have h : (cfg0.win (4 : Fin 9)).fetch t0_0 = true := rfl
  unfold Dat.before; rw [if_pos h]
  exact funext fun i => congrArg (m ((c : Thread nD τ).loc main_arg4)) (funext fun a => Fin.ext (by show 0 * _ + 1 * (i a).val = (i a).val; omega))
theorem before_5 (c : Dev nD) (d) : (dats m ρ 0 c).before (5 : Fin 9) t0_0 d = (ins m c).wqr := by
  have h : (cfg0.win (5 : Fin 9)).fetch t0_0 = true := rfl
  unfold Dat.before; rw [if_pos h]
  exact funext fun i => congrArg (m ((c : Thread nD τ).loc main_arg5)) (funext fun a => Fin.ext (by show 0 * _ + 1 * (i a).val = (i a).val; omega))
theorem before_6 (c : Dev nD) (d) : (dats m ρ 0 c).before (6 : Fin 9) t0_0 d = (ins m c).wkr := by
  have h : (cfg0.win (6 : Fin 9)).fetch t0_0 = true := rfl
  unfold Dat.before; rw [if_pos h]
  exact funext fun i => congrArg (m ((c : Thread nD τ).loc main_arg6)) (funext fun a => Fin.ext (by show 0 * _ + 1 * (i a).val = (i a).val; omega))
theorem before_7 (c : Dev nD) (d) : (dats m ρ 0 c).before (7 : Fin 9) t0_0 d = (ins m c).wo := by
  have h : (cfg0.win (7 : Fin 9)).fetch t0_0 = true := rfl
  unfold Dat.before; rw [if_pos h]
  exact funext fun i => congrArg (m ((c : Thread nD τ).loc main_arg7)) (funext fun a => Fin.ext (by show 0 * _ + 1 * (i a).val = (i a).val; omega))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_out (c : Dev nD) (b : Ref sig .tc) (X : b.ty.Contents (Elt F)) : pts c b Finset.univ fullShare X ⊢ stg c b X := by
  iintro H; iexists X; isplitr; · (ipureintro; rfl)
  iexact H
theorem stg_in (c : Dev nD) (b : Ref sig .tc) (X : b.ty.Contents (Elt F)) : stg c b X ⊢ pts c b Finset.univ fullShare X := by
  iintro ⟨%f, %h, H⟩; subst h; iexact H

/-! ## The body -/

/-- The body's end, its cells closed. -/
theorem finish (c : Dev nD) : iprop(recs I K ∗ bodyPost I c)
    ⊢ (|={Set.univ}=> iprop(Φ₁ c ∗ ow c 0 ∗ Xs I c ∗ pts c cc0_stg8_0 Finset.univ fullShare (outAt I c)) : sProp 𝕄) := by
  unfold bodyPost waitPost Φ₁
  iintro ⟨#HR, HO, HX, HB, HQ, HA, HT, ⟨⟨⟨S00, P00⟩, ⟨S01, P01⟩, ⟨S02, P02⟩, ⟨S03, P03⟩⟩, ⟨⟨S10, P10⟩, ⟨S11, P11⟩, ⟨S12, P12⟩, ⟨S13, P13⟩⟩, ⟨⟨S20, P20⟩, ⟨S21, P21⟩, ⟨S22, P22⟩, ⟨S23, P23⟩⟩, ⟨⟨S30, P30⟩, ⟨S31, P31⟩, ⟨S32, P32⟩, ⟨S33, P33⟩⟩, ⟨⟨S40, P40⟩, ⟨S41, P41⟩, ⟨S42, P42⟩, ⟨S43, P43⟩⟩⟩⟩
  imod (close_bar I K c) $$ [HA] with HA
  · isplitr; · iexact HR
    iexact HA
  imod (close_side I K c true) $$ [HT] with HT
  · isplitr; · iexact HR
    iexact HT
  imod (close_side I K c false) $$ [P00 P01 P02 P03 P10 P11 P12 P13 P20 P21 P22 P23 P30 P31 P32 P33 P40 P41 P42 P43] with HS
  · isplitr; · iexact HR
    isplitl [P00 P01 P02 P03]
    · isplitl [P00]; · iexact P00
      isplitl [P01]; · iexact P01
      isplitl [P02]; · iexact P02
      iexact P03
    isplitl [P10 P11 P12 P13]
    · isplitl [P10]; · iexact P10
      isplitl [P11]; · iexact P11
      isplitl [P12]; · iexact P12
      iexact P13
    isplitl [P20 P21 P22 P23]
    · isplitl [P20]; · iexact P20
      isplitl [P21]; · iexact P21
      isplitl [P22]; · iexact P22
      iexact P23
    isplitl [P30 P31 P32 P33]
    · isplitl [P30]; · iexact P30
      isplitl [P31]; · iexact P31
      isplitl [P32]; · iexact P32
      iexact P33
    isplitl [P40]; · iexact P40
    isplitl [P41]; · iexact P41
    isplitl [P42]; · iexact P42
    iexact P43
  imodintro
  isplitl [HB HA HT HS S00 S01 S02 S03 S10 S11 S12 S13 S20 S21 S22 S23 S30 S31 S32 S33 S40 S41 S42 S43]
  · isplitl [HB S00 S01 S02 S03 S10 S11 S12 S13 S20 S21 S22 S23 S30 S31 S32 S33 S40 S41 S42 S43]
    · iapply (scr_out I c)
      isplitl [HB]; · iexact HB
      isplitl [S00 S01 S02 S03]
      · isplitl [S00]; · iexact S00
        isplitl [S01]; · iexact S01
        isplitl [S02]; · iexact S02
        iexact S03
      isplitl [S10 S11 S12 S13]
      · isplitl [S10]; · iexact S10
        isplitl [S11]; · iexact S11
        isplitl [S12]; · iexact S12
        iexact S13
      isplitl [S20 S21 S22 S23]
      · isplitl [S20]; · iexact S20
        isplitl [S21]; · iexact S21
        isplitl [S22]; · iexact S22
        iexact S23
      isplitl [S30 S31 S32 S33]
      · isplitl [S30]; · iexact S30
        isplitl [S31]; · iexact S31
        isplitl [S32]; · iexact S32
        iexact S33
      isplitl [S40]; · iexact S40
      isplitl [S41]; · iexact S41
      isplitl [S42]; · iexact S42
      iexact S43
    isplitl [HA]; · iexact HA
    rw [bigSep_side (fun b k p => (semVal (xC c b k p) 0 : sProp 𝕄))]
    isplitl [HS]; · iexact HS
    iexact HT
  isplitl [HO]; · iexact HO
  isplitl [HX]; · iexact HX
  iapply (Entails.of_eq (out_join c (outAt I c)).symm); iexact HQ

theorem sig_all (c : Dev nD) : (iprop((bigSep Finset.univ fun p : Fin 4 => on c p (dutyTok ER (barC (pr c p)) 0 (yc c)))
      ∗ bigSep Finset.univ fun p : Fin 4 => on c p (bigSep Finset.univ fun k : Chan => land (F := F) k c p)) : sProp 𝕄) ⊢ all4 (sigX (F := F) c) := by
  have e : all4 (sigX (F := F) c) = bigSep Finset.univ fun p : Fin 4 => sigX (F := F) c p := (bigSep_4 (fun p => sigX (F := F) c p)).symm
  rw [e, ← bigSep_sep']
  refine bigSep_mono fun p _ => ?_
  unfold sigX; rw [on_sep]; exact BI.Entails.refl _

theorem wait_all (c : Dev nD) : (iprop((bigSep Finset.univ fun k : Chan => bigSep Finset.univ fun p : Fin 4 => on c p (credX (F := F) c true k p))
      ∗ bigSep Finset.univ fun k : Chan => bigSep Finset.univ fun p : Fin 4 => atPos ER (xC c true k p) 0 ∅ 0) : sProp 𝕄) ⊢ all5 (waitPre (F := F) c true) := by
  have e : all5 (waitPre (F := F) c true) = bigSep Finset.univ fun k : Chan => bigSep Finset.univ fun p : Fin 4 => waitPre (F := F) c true k p :=
    (all5_eq (waitPre (F := F) c true)).symm
  rw [e, ← bigSep_sep']
  refine bigSep_mono fun k _ => ?_
  rw [← bigSep_sep']
  exact bigSep_mono fun p _ => BI.Entails.refl _

theorem pos_all (c : Dev nD) : (bigSep Finset.univ fun i : Fin 41 => (atPos ER (kcell (c, i)) 0 ∅ 0 : sProp 𝕄))
    = iprop(atPos ER (barC c) 0 ∅ 0 ∗ all5 (atS (F := F) c)
      ∗ bigSep Finset.univ fun k : Chan => bigSep Finset.univ fun p : Fin 4 => atPos ER (xC c true k p) 0 ∅ 0) := by
  have e := bigSep_41 (fun sm : SemLoc sig => (atPos ER ((c : Thread nD τ), sm) 0 ∅ 0 : sProp 𝕄))
  refine e.trans ?_
  rw [bigSep_40 (fun sm : SemLoc sig => (atPos ER ((c : Thread nD τ), sm) 0 ∅ 0 : sProp 𝕄)),
    bigSep_side (fun b k p => (atPos ER ((c : Thread nD τ), SemLoc.dma (xs b k p)) 0 ∅ 0 : sProp 𝕄)), all5_eq (atS (F := F) c)]

/-- Everything the body starts from. -/
theorem begin (c : Dev nD) (f8 : Vec F S512x1024 .f32) :
    iprop(share m K c ∗ levAts L lv ∗ cred (tallyAt (barC c) () 3)
        ∗ (bigSep Finset.univ fun k : Chan => bigSep Finset.univ fun p : Fin 4 => on c p (credX (F := F) c true k p))
        ∗ scr c ∗ ow c (tot c evAll) ∗ Xs (ins m) c ∗ pts c cc0_stg8_0 Finset.univ fullShare f8)
      ⊢ iprop(recs (ins m) K ∗ ∃ f0 f1 f2 f3 f4 f5, bodyPre (ins m) K c f0 f1 f2 f3 f4 f5 f8) := by
  unfold share bodyPre
  rw [pos_all]
  iintro ⟨⟨⟨#HI, #Hr⟩, ⟨HA, HS, HT⟩, Htok⟩, #Hlev, HB, HC, Hscr, HO, HX, HQ⟩
  ihave Hs := (scr_in c) $$ Hscr
  icases Hs with ⟨%f0, %f1, %f2, %f3, %f4, %f5, Hb, Hl⟩
  ihave Ht := (payToks_all c) $$ Htok
  icases Ht with ⟨Hs, Ht⟩
  isplitr
  · unfold recs
    isplitr; · iexact HI
    isplitr; · iexact Hr
    iexact Hlev
  iexists f0; iexists f1; iexists f2; iexists f3; iexists f4; iexists f5
  isplitr
  · unfold recs
    isplitr; · iexact HI
    isplitr; · iexact Hr
    iexact Hlev
  isplitl [HO]; · iexact HO
  isplitl [Hs Hl]
  · iapply (sig_all c)
    isplitl [Hs]; · iexact Hs
    iexact Hl
  isplitl [HX]; · iexact HX
  isplitl [Hb]; · iexact Hb
  isplitl [HQ]; · iapply (Entails.of_eq (out_join c f8)); iexact HQ
  isplitl [HB HA]
  · isplitl [HB]; · iexact HB
    iexact HA
  isplitl [Ht]; · iexact Ht
  isplitl [HC HT]
  · iapply (wait_all c)
    isplitl [HC]; · iexact HC
    iexact HT
  iexact HS

/-- The body from the launch's share to the end. -/
theorem sound_body (c : Dev nD) (f8 : Vec F S512x1024 .f32) :
    iprop(share m K c ∗ levAts L lv ∗ cred (tallyAt (barC c) () 3)
        ∗ (bigSep Finset.univ fun k : Chan => bigSep Finset.univ fun p : Fin 4 => on c p (credX (F := F) c true k p))
        ∗ scr c ∗ ow c (tot c evAll) ∗ Xs (ins m) c ∗ pts c cc0_stg8_0 Finset.univ fullShare f8)
      ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) fun _ => iprop(Φ₁ c ∗ ow c 0 ∗ Xs (ins m) c ∗ pts c cc0_stg8_0 Finset.univ fullShare (outAt (ins m) c)) := by
  refine (begin K m c f8).trans ((?_ : iprop(recs (ins m) K ∗ ∃ f0 f1 f2 f3 f4 f5, bodyPre (ins m) K c f0 f1 f2 f3 f4 f5 f8) ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) fun _ => iprop(|={Set.univ}=> iprop(Φ₁ c ∗ ow c 0 ∗ Xs (ins m) c ∗ pts c cc0_stg8_0 Finset.univ fullShare (outAt (ins m) c)))).trans (wp_fupd frame (wpE (defs₀ (F := F)) 𝒱₀ (c : Thread nD τ) none) Set.univ _ _))
  iintro ⟨#HR, ⟨%f0, %f1, %f2, %f3, %f4, %f5, Hb⟩⟩
  ihave H := (body_spec (ins m) K c f0 f1 f2 f3 f4 f5 f8) $$ Hb
  iapply (wp_wand frame (wpE (defs₀ (F := F)) 𝒱₀ (c : Thread nD τ) none) Set.univ) $$ H
  iintro %a Hp
  iapply (finish (ins m) K c)
  isplitr; · iexact HR
  iexact Hp

/-- The body's obligation, as the pipeline states it, before and after. -/
def obPre (c : Dev nD) : sProp 𝕄 :=
  iprop(Φ₀ m c ∗ (dats m ρ 0 c).owesAt () t0_0.castSucc
    ∗ (∃ d, stg c cc0_stg0_0 ((dats m ρ 0 c).before (0 : Fin 9) t0_0 d))
    ∗ (∃ d, stg c cc0_stg1_0 ((dats m ρ 0 c).before (1 : Fin 9) t0_0 d))
    ∗ (∃ d, stg c cc0_stg2_0 ((dats m ρ 0 c).before (2 : Fin 9) t0_0 d))
    ∗ (∃ d, stg c cc0_stg3_0 ((dats m ρ 0 c).before (3 : Fin 9) t0_0 d))
    ∗ (∃ d, stg c cc0_stg4_0 ((dats m ρ 0 c).before (4 : Fin 9) t0_0 d))
    ∗ (∃ d, stg c cc0_stg5_0 ((dats m ρ 0 c).before (5 : Fin 9) t0_0 d))
    ∗ (∃ d, stg c cc0_stg6_0 ((dats m ρ 0 c).before (6 : Fin 9) t0_0 d))
    ∗ (∃ d, stg c cc0_stg7_0 ((dats m ρ 0 c).before (7 : Fin 9) t0_0 d))
    ∗ (∃ d, stg c cc0_stg8_0 ((dats m ρ 0 c).before (8 : Fin 9) t0_0 d)))
def obPost (c : Dev nD) : sProp 𝕄 :=
  iprop(Φ₁ c ∗ (dats m ρ 0 c).owesAt () t0_0.succ
    ∗ stg c cc0_stg0_0 ((ins m c).x)
    ∗ stg c cc0_stg1_0 ((ins m c).wdkv)
    ∗ stg c cc0_stg2_0 ((ins m c).wuk)
    ∗ stg c cc0_stg3_0 ((ins m c).wuv)
    ∗ stg c cc0_stg4_0 ((ins m c).wq)
    ∗ stg c cc0_stg5_0 ((ins m c).wqr)
    ∗ stg c cc0_stg6_0 ((ins m c).wkr)
    ∗ stg c cc0_stg7_0 ((ins m c).wo)
    ∗ stg c cc0_stg8_0 (outAt (ins m) c))

theorem body_start (c : Dev nD) : obPre m ρ c ⊢ iprop(∃ K f8, share m K c ∗ levAts L lv ∗ cred (tallyAt (barC c) () 3)
        ∗ (bigSep Finset.univ fun k : Chan => bigSep Finset.univ fun p : Fin 4 => on c p (credX (F := F) c true k p))
        ∗ scr c ∗ ow c (tot c evAll) ∗ Xs (ins m) c ∗ pts c cc0_stg8_0 Finset.univ fullShare f8) := by
  unfold obPre Φ₀ start G' Xs Dat.owesAt Pipeline.owesWithin
  simp only [before_0, before_1, before_2, before_3, before_4, before_5, before_6, before_7]
  rw [show (dats m ρ 0 c).owed t0_0.castSucc = tot c evAll from rfl]
  iintro ⟨⟨⟨⟨%K, Hsh⟩, HB, HC, Hlev⟩, Hscr⟩, ⟨%W, %hW, HO⟩, ⟨%d0, X0⟩, ⟨%d1, X1⟩, ⟨%d2, X2⟩, ⟨%d3, X3⟩, ⟨%d4, X4⟩, ⟨%d5, X5⟩, ⟨%d6, X6⟩, ⟨%d7, X7⟩, ⟨%d8, %f8, %h8, X8⟩⟩
  iexists K; iexists f8
  isplitl [Hsh]; · iexact Hsh
  isplitl [Hlev]; · iexact Hlev
  isplitl [HB]; · iexact HB
  isplitl [HC]; · iexact HC
  isplitl [Hscr]; · iexact Hscr
  isplitl [HO]; · iexists W; iexact HO
  isplitl [X0 X1 X2 X3 X4 X5 X6 X7]
  · isplitl [X0]; · iapply (stg_in c cc0_stg0_0); iexact X0
    isplitl [X1]; · iapply (stg_in c cc0_stg1_0); iexact X1
    isplitl [X2]; · iapply (stg_in c cc0_stg2_0); iexact X2
    isplitl [X3]; · iapply (stg_in c cc0_stg3_0); iexact X3
    isplitl [X4]; · iapply (stg_in c cc0_stg4_0); iexact X4
    isplitl [X5]; · iapply (stg_in c cc0_stg5_0); iexact X5
    isplitl [X6]; · iapply (stg_in c cc0_stg6_0); iexact X6
    iapply (stg_in c cc0_stg7_0); iexact X7
  iexact X8

theorem body_end (c : Dev nD) : iprop(Φ₁ c ∗ ow c 0 ∗ Xs (ins m) c ∗ pts c cc0_stg8_0 Finset.univ fullShare (outAt (ins m) c)) ⊢ obPost m ρ c := by
  unfold obPost Xs Dat.owesAt Pipeline.owesWithin
  rw [show (dats m ρ 0 c).owed t0_0.succ = 0 from rfl]
  iintro ⟨HΦ, ⟨%W, HO⟩, ⟨X0, X1, X2, X3, X4, X5, X6, X7⟩, X8⟩
  isplitl [HΦ]; · iexact HΦ
  isplitl [HO]
  · iexists W
    isplitr; · ipureintro; exact fun _ _ => Or.inl trivial
    iexact HO
  isplitl [X0]; · iapply (stg_out c cc0_stg0_0); iexact X0
  isplitl [X1]; · iapply (stg_out c cc0_stg1_0); iexact X1
  isplitl [X2]; · iapply (stg_out c cc0_stg2_0); iexact X2
  isplitl [X3]; · iapply (stg_out c cc0_stg3_0); iexact X3
  isplitl [X4]; · iapply (stg_out c cc0_stg4_0); iexact X4
  isplitl [X5]; · iapply (stg_out c cc0_stg5_0); iexact X5
  isplitl [X6]; · iapply (stg_out c cc0_stg6_0); iexact X6
  isplitl [X7]; · iapply (stg_out c cc0_stg7_0); iexact X7
  iapply (stg_out c cc0_stg8_0); iexact X8

set_option maxRecDepth 8000 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show obPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) (fun _ => obPost m ρ c)
  have h : obPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12 cc0_scratch13) fun _ => iprop(Φ₁ c ∗ ow c 0 ∗ Xs (ins m) c ∗ pts c cc0_stg8_0 Finset.univ fullShare (outAt (ins m) c)) := by
    iintro H
    ihave H := (body_start m ρ c) $$ H
    icases H with ⟨%K, %f8, H⟩
    iapply (sound_body K m c f8); iexact H
  exact h.trans (wp_mono frame (wpE (defs₀ (F := F)) 𝒱₀ (c : Thread nD τ) none) Set.univ fun _ => body_end m ρ c)

/-! ## The launch -/

theorem ownSemFacts : Pipeline.OwnSemFacts cfg0.spec osem := by decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf exCells exToks)

/-- What the launch element deals device `c`. -/
def G (c : Dev nD) : sProp 𝕄 :=
  iprop((bigSep Finset.univ fun i : Fin 41 => roundState ER (Rd (ins m)) (kcell (c, i)) 0)
    ∗ (bigSep Finset.univ fun i : Fin 41 => iprop(atPos ER (kcell (c, i)) 0 ∅ 0 ∗ reached ER (kcell (c, i)) 0)) ∗ payToks c)

theorem cells_deal (Φ : GSem nD τ sig → sProp 𝕄) :
    bigSep exCells Φ = bigSep Finset.univ fun c : Dev nD => bigSep Finset.univ fun i : Fin 41 => Φ (kcell (c, i)) := by
  unfold exCells; rw [bigSep_map, bigSep_univ_prod]; rfl

theorem fund_ex : BI.own (ER (initOf exCells exToks)) ⊢ (|==> bigSep Finset.univ (G m) : sProp 𝕄) := by
  iintro HX
  imod (Rounds.fund ER (Rd (ins m)) exCells exToks) $$ HX with ⟨Hst, Hr, Hat, Htok⟩
  imodintro
  ihave Hst' := (Entails.of_eq (cells_deal fun g => roundState ER (Rd (ins m)) g 0)) $$ Hst
  ihave Hat' := (Entails.of_eq (cells_deal fun g => atPos ER g 0 ∅ 0)) $$ Hat
  ihave Hr' := (Entails.of_eq (cells_deal fun g => reached ER g 0)) $$ Hr
  ihave Htok' := (Entails.of_eq (toks_deal (F := F))) $$ Htok
  unfold G; simp only [bigSep_sep']
  isplitl [Hst']; · iexact Hst'
  isplitl [Hat' Hr']
  · isplitl [Hat'] <;> iassumption
  iexact Htok'

/-- The exchange's semaphores are the barrier's, the launch's one unscoped semaphore, and the kernel's own forty. -/
theorem ownSems0_eq (c : Dev nD) : (Pipeline.ownSems0 (Ix := Unit) (Name := ℕ) (U := UU) (Lvl := ℕ) (Val := Elt F) (τ := τ) osem c : sProp 𝕄)
    = bigSep Finset.univ fun i : Fin 40 => semVal ((c : Thread nD τ), osem i) 0 := rfl
theorem unscopedSems0_eq (c : Dev nD) : (unscopedSems0 c : sProp 𝕄) = semVal (barC c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 41 => semVal (kcell (c, i)) 0 : sProp 𝕄) := by
  have e := bigSep_41 (fun sm : SemLoc sig => (semVal ((c : Thread nD τ), sm) 0 : sProp 𝕄))
  rw [ownSems0_eq, unscopedSems0_eq]
  have h : iprop((bigSep Finset.univ fun i : Fin 40 => semVal ((c : Thread nD τ), osem i) 0) ∗ semVal (barC c) 0)
      ⊢ (iprop(semVal ((c : Thread nD τ), SemLoc.reg barS) 0 ∗ bigSep Finset.univ fun i : Fin 40 => semVal ((c : Thread nD τ), osem i) 0) : sProp 𝕄) := ?_
  · exact h.trans (Entails.of_eq e.symm)
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 41 => iprop(∃ κ : ℕ, cellInv ER (Rd (ins m)) κ (kcell (c, i))))
          ∗ (bigSep Finset.univ fun i : Fin 41 => iprop(atPos ER (kcell (c, i)) 0 ∅ 0 ∗ reached ER (kcell (c, i)) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun i : Fin 41 => semVal (kcell (c, i)) 0) ∗ bigSep Finset.univ fun i : Fin 41 => roundState ER (Rd (ins m)) (kcell (c, i)) 0)
      ⊢ (|={Set.univ}=> bigSep Finset.univ fun i : Fin 41 => iprop(∃ κ : ℕ, cellInv ER (Rd (ins m)) κ (kcell (c, i))) : sProp 𝕄) from by
        rw [← bigSep_sep']
        exact (bigSep_mono fun i _ => (Rounds.body_intro ER (Rd (ins m)) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 41 → ℕ) : sProp 𝕄 :=
  iprop((bigSep Finset.univ fun ck : Dev nD × Fin 41 => cellInv ER (Rd (ins m)) (K ck) (kcell ck))
    ∗ bigSep Finset.univ fun ck : Dev nD × Fin 41 => reached ER (kcell ck) 0)
instance records_persistent (K : Dev nD × Fin 41 → ℕ) : BI.Persistent (records m K) := by unfold records; infer_instance
def linear (c : Dev nD) : sProp 𝕄 := iprop((bigSep Finset.univ fun i : Fin 41 => atPos ER (kcell (c, i)) 0 ∅ 0) ∗ payToks c)
theorem share_intro (K : Dev nD × Fin 41 → ℕ) (c : Dev nD) : iprop(records m K ∗ linear c) ⊢ G' m c := by
  unfold G' share records linear
  iintro H; iexists K; iexact H

theorem regroup :
    (bigSep Finset.univ fun c : Dev nD => iprop((bigSep Finset.univ fun i : Fin 41 => iprop(∃ κ : ℕ, cellInv ER (Rd (ins m)) κ (kcell (c, i))))
          ∗ (bigSep Finset.univ fun i : Fin 41 => iprop(atPos ER (kcell (c, i)) 0 ∅ 0 ∗ reached ER (kcell (c, i)) 0)) ∗ payToks c) : sProp 𝕄)
      ⊢ bigSep Finset.univ (G' m) := by
  rw [bigSep_sep', bigSep_sep', ← bigSep_univ_prod (fun ck : Dev nD × Fin 41 => iprop(∃ κ : ℕ, cellInv ER (Rd (ins m)) κ (kcell ck))),
    bigSep_congr (s := Finset.univ) (fun (c : Dev nD) _ => bigSep_sep' Finset.univ (fun i : Fin 41 => (atPos ER (kcell (c, i)) 0 ∅ 0 : sProp 𝕄)) (fun i => reached ER (kcell (c, i)) 0)),
    bigSep_sep', ← bigSep_univ_prod (fun ck : Dev nD × Fin 41 => (reached ER (kcell ck) 0 : sProp 𝕄))]
  iintro ⟨HI, ⟨Hat, #HR⟩, Htok⟩
  ihave HK := (BI.bigSep_exists_pi Finset.univ (fun (ck : Dev nD × Fin 41) (κ : ℕ) => (cellInv ER (Rd (ins m)) κ (kcell ck) : sProp 𝕄))) $$ HI
  icases HK with ⟨%K, #HI⟩
  iapply (BI.bigSep_with_persistent (R := records m K) fun c _ => share_intro m K c)
  isplitr
  · unfold records; isplitl; · iexact HI
    iexact HR
  · iapply (Entails.of_eq (bigSep_sep' Finset.univ (fun c : Dev nD => bigSep Finset.univ fun i : Fin 41 => (atPos ER (kcell (c, i)) 0 ∅ 0 : sProp 𝕄)) payToks).symm)
    isplitl [Hat]; · iexact Hat
    iexact Htok

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem scratch_eq (c : Dev nD) : (Pipeline.scopedRest (Ix := Unit) (Name := ℕ) (U := UU) (Lvl := ℕ) (Val := Elt F) cfg0.spec c : sProp 𝕄) = scr c :=
  scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, ownSems0_eq, unscopedSems0_eq,
    bigSep_40 (fun sm : SemLoc sig => (semVal ((c : Thread nD τ), sm) 0 : sProp 𝕄))]
  unfold Φ₁
  iintro ⟨Hr, HzB, HzS⟩
  isplitl [HzB]; · iexact HzB
  isplitl [HzS] <;> iassumption

theorem lvl_stage (q : DmaSem sig) (h : q.val < 9) : lvl (.dma q) = 0 := by
  have e : dec q = none := if_pos h
  unfold lvl; simp only [e]

theorem waits (c : Dev nD) : (levAts L lv : sProp 𝕄) ⊢ Pipeline.cellsWaits cfgs (dats m ρ) () 0 c :=
  Pipeline.cellsWaits_intro cfgs (dats m ρ) () 0 c fun w s t => by
    have hs : ∀ (w : Fin 9) (s : Fin (cfg0.win w).nbuf), ∀ e ∈ evAll, lvl (.dma ((cfg0.win w).sem s)) < evLv e := by decide +kernel
    rcases t with ⟨_ | n, ht⟩
    · exact mayWait c _ evAll (hs w s)
    · exact mayWait c _ [] (fun e he => absurd he List.not_mem_nil)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the whole mesh, for any float values, from any memory with zero counters: every weakly fair execution ends, each
    device's arrays then hold the computed contents, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of the inputs hold after the run what they held. -/
theorem finalA_in (c : Dev nD) (w : Fin 9) (hw : w ≠ 8) : finalA m ρ c w = (s₀ m ρ).mem ((cfg0.win w).arr.view.loc (c : Thread nD τ)) :=
  (dats (F := F) m ρ 0 c).arrAt_in w (by revert hw; revert w; decide) _

end Cert.Mla
end
-- ==== Proof.Frames.lean ====
/-
The frames of the three programs, and the kernel's run with its result.
-/
module

public import proofs.«01_k».proof.Defs
public import proofs.«01_k».proof.Proof.Gen.Kernel
public import proofs.«01_k».proof.Proof.Gen.ReferenceIdeal.Run
public import proofs.«01_k».proof.Proof.Launch
public import Idealize.ShloMosaic.Lib.Pipeline.Value

@[expose] public section

noncomputable section

namespace Cert.Mla

open Cert.KernelIdeal Cert.KernelIdeal.Gen
open Idealize.ShloMosaic
open Idealize.ShloMosaic.TcCoe
open Idealize.SL.Sem

variable {F : FTy → Type} [FloatOps F] [Named F]
variable (m : (ℓ : Loc nD τ sig) → Buf (Elt F) ℓ) (ρ : Dev nD → PrngReg)

set_option maxRecDepth 8000 in
/-- The array of the result holds after the run what the body stored. -/
theorem finalA_out (c : Dev nD) : finalA m ρ c (8 : Fin 9) = outAt (ins m) c := by
  refine Pipeline.Dat.arrAt_eq_of_cover (dats m ρ 0 c) (8 : Fin 9) _ (fun t _ => ?_) fun i => ⟨t0_0, by decide, ?_⟩
  · rw [fin_N0 t]
    show outAt (ins m) c = _
    exact funext fun i => congrArg (outAt (ins m) c) (funext fun a => Fin.ext (by show (i a).val = 0 * _ + 1 * (i a).val; omega))
  · show i ∈ ((cfg0.win (8 : Fin 9)).blk t0_0).view.set
    refine Finset.mem_map.2 ⟨i, Finset.mem_univ _, ?_⟩
    exact (funext fun a => Fin.ext (by show 0 * _ + 1 * (i a).val = (i a).val; omega))

/-- Device `c`'s arguments are in `s` what they are in `m`. -/
abbrev kept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)
  ∧ s ((c.tc : Thread nD τ).loc main_arg4) = m ((c.tc : Thread nD τ).loc main_arg4)
  ∧ s ((c.tc : Thread nD τ).loc main_arg5) = m ((c.tc : Thread nD τ).loc main_arg5)
  ∧ s ((c.tc : Thread nD τ).loc main_arg6) = m ((c.tc : Thread nD τ).loc main_arg6)
  ∧ s ((c.tc : Thread nD τ).loc main_arg7) = m ((c.tc : Thread nD τ).loc main_arg7)

/-- The run, for any float values: every device's result is the body's, its arguments are unchanged, and every
    counter is zero. -/
theorem run_out : θ_run defs (onTc (τ := τ) (main (F := F))) ⟨m, fun _ => 0, ρ⟩ (fun r => (∀ c : Dev nD,
      r.2.mem ((c.tc : Thread nD τ).loc main_v1) = outAt (ins m) c ∧ kept m r.2.mem c) ∧ r.2.sem = fun _ => 0) :=
  (θ_run defs _ _).mono (fun _ h => ⟨fun c => ⟨(h.1 c (8 : Fin 9)).trans (finalA_out m ρ c),
      (h.1 c (0 : Fin 9)).trans (finalA_in m ρ c 0 (by decide)), (h.1 c (1 : Fin 9)).trans (finalA_in m ρ c 1 (by decide)),
      (h.1 c (2 : Fin 9)).trans (finalA_in m ρ c 2 (by decide)), (h.1 c (3 : Fin 9)).trans (finalA_in m ρ c 3 (by decide)),
      (h.1 c (4 : Fin 9)).trans (finalA_in m ρ c 4 (by decide)), (h.1 c (5 : Fin 9)).trans (finalA_in m ρ c 5 (by decide)),
      (h.1 c (6 : Fin 9)).trans (finalA_in m ρ c 6 (by decide)), (h.1 c (7 : Fin 9)).trans (finalA_in m ρ c 7 (by decide))⟩, h.2⟩)
    (run_main m ρ)

/-- On the bit patterns a named constant is its pattern: the frame of the kernel is the ideal kernel's, read so. -/
@[reducible] def namedBits : Named Bits := ⟨fun _ _ {φ} b => Scalar.ofBits φ b⟩

attribute [local instance] namedBits

set_option maxRecDepth 8000 in
/-- The two programs have the same text: the tables of their kernels' bodies are one. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, hl⟩ := l
  cases l with
  | zero => obtain ⟨t, s⟩ := a; rfl
  | succ n => exact absurd hl (Nat.not_lt.2 (Nat.le_add_left _ _))

theorem defs_eq : Cert.Kernel.defs (F := Bits) = Cert.KernelIdeal.defs (F := Bits) :=
  congrArg (Pipeline.defs Cert.KernelIdeal.pcfgs) bodies_eq

/-- The kernel's frame. -/
theorem frame_kernel : Cert.quiescent_Kernel := fun m ρ _ => by
  have key : ∀ d, d = Cert.KernelIdeal.defs (F := Bits) → θ_run d (onTc (τ := Cert.KernelIdeal.τ) (Cert.KernelIdeal.main (F := Bits))) ⟨m, fun _ => 0, ρ⟩
      (fun r => (∀ c : Dev nD, kept m r.2.mem c) ∧ r.2.sem = fun _ => 0) := by
    rintro _ rfl
    exact (θ_run Cert.KernelIdeal.defs _ _).mono (fun _ h => ⟨fun c => (h.1 c).2, h.2⟩) (run_out (F := Bits) m ρ)
  exact key _ defs_eq

/-- Naming the scale the inverse root of 96 is a change that the rule admits. -/
theorem names : Cert.preserves_Kernel_KernelIdeal :=
  IdealRules.named_const.statement Cert.KernelIdeal.κ "scale" .f32 0x3DD105EC#32 (((Real.sqrt 96)⁻¹ : ℝ) : EReal) rfl

/-- The ideal kernel's frame. -/
theorem frame_ideal : Cert.quiescent_KernelIdeal := fun m ρ _ =>
  (θ_run Cert.KernelIdeal.defs _ _).mono (fun _ h => ⟨fun c => (h.1 c).2, h.2⟩) (run_out (F := Ideal) m ρ)

/-- The reference's frame: a straight-line host program without semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Mla
end
-- ==== Proof.Attention.lean ====
/-
What the two programs compute, on whole arrays: latent attention over two sequences of 256 rows, sixteen heads of
64 columns and a rotary part of 32, in extended reals.
-/
module

public import proofs.«01_k».proof.Proof.Gen.ReferenceIdeal.Run
public import Idealize.ShloMosaic.Lib.Pointwise

@[expose] public section

noncomputable section

namespace Cert.Mla

open Idealize.ShloMosaic

/-- The whole arrays. -/
structure Whole where
  x : FVec Ideal (⟨3, ![2, 256, 1024]⟩ : Shape) .f32
  wdkv : FVec Ideal (⟨2, ![1024, 256]⟩ : Shape) .f32
  wuk : FVec Ideal (⟨2, ![256, 1024]⟩ : Shape) .f32
  wuv : FVec Ideal (⟨2, ![256, 1024]⟩ : Shape) .f32
  wq : FVec Ideal (⟨2, ![1024, 1024]⟩ : Shape) .f32
  wqr : FVec Ideal (⟨2, ![1024, 512]⟩ : Shape) .f32
  wkr : FVec Ideal (⟨2, ![1024, 32]⟩ : Shape) .f32
  wo : FVec Ideal (⟨2, ![1024, 1024]⟩ : Shape) .f32

/-- One row of attention: the values weighted by the softmax of the scores. -/
def att (sc v : Fin 256 → EReal) : EReal :=
  ∑ t, v t * Ideal.div (Ideal.exp (sc t - Finset.fold max (Ideal.ofBits FTy.f32 0xFF800000#32) sc Finset.univ))
    (∑ u, Ideal.exp (sc u - Finset.fold max (Ideal.ofBits FTy.f32 0xFF800000#32) sc Finset.univ))

/-- Column `d` of the head that column `y` lies in, of the heads' 64 columns and of the rotary 32. -/
def hcol (y : Fin 1024) (d : Fin 64) : Fin 1024 := ⟨y.val / 64 * 64 + d.val, by omega⟩
def rcol (y : Fin 1024) (d : Fin 32) : Fin 512 := ⟨y.val / 64 * 32 + d.val, by omega⟩

section
variable (A : Whole) (b : Fin 2) (s t : Fin 256)

/-- The compressed activations; keys, values, queries, rotary queries and the rotary key. -/
def mC (j : Fin 256) : EReal := ∑ d, A.x (ix3 b s d) * A.wdkv (ix2 d j)
def mK (y : Fin 1024) : EReal := ∑ j, mC A b s j * A.wuk (ix2 j y)
def mV (y : Fin 1024) : EReal := ∑ j, mC A b s j * A.wuv (ix2 j y)
def mQ (y : Fin 1024) : EReal := ∑ d, A.x (ix3 b s d) * A.wq (ix2 d y)
def mQr (y : Fin 512) : EReal := ∑ d, A.x (ix3 b s d) * A.wqr (ix2 d y)
def mKr (y : Fin 32) : EReal := ∑ d, A.x (ix3 b s d) * A.wkr (ix2 d y)

/-- The scale of the scores, the inverse root of a head's 96 columns. -/
def scale : EReal := (((Real.sqrt 96)⁻¹ : ℝ) : EReal)

/-- The host's reciprocal of a root is it. -/
theorem scale_host : Ideal.div 1 (Ideal.sqrt (Ideal.ofBits FTy.f32 0x42C00000#32)) = scale := by
  have h96 : Ideal.ofBits FTy.f32 0x42C00000#32 = ((96 : ℝ) : EReal) := by
    simp [Ideal.ofBits, Ideal.ieee, -EReal.coe_mul]; norm_num
  have hs : Real.sqrt 96 ≠ 0 := (Real.sqrt_pos.mpr (by norm_num)).ne'
  rw [h96, Ideal.sqrt_coe, if_neg (by norm_num), Ideal.div_coe hs, one_mul, one_div]
  rfl

/-- The score of row `s` against row `t` in the head of column `y`. -/
def mS (y : Fin 1024) : EReal :=
  (∑ d, mQ A b s (hcol y d) * mK A b t (hcol y d) + ∑ d, mQr A b s (rcol y d) * mKr A b t d) * scale

/-- The heads' attention, and the result. -/
def mO (y : Fin 1024) : EReal := att (fun t => mS A b s t y) (fun t => mV A b t y)
def mOut (e : Fin 1024) : EReal := ∑ y, mO A b s y * A.wo (ix2 y e)
end

section Reference
open Cert.ReferenceIdeal Cert.ReferenceIdeal.Gen Cert.ReferenceIdeal.Value
variable (m : (ℓ : Loc nD τ sig) → Buf (Elt Ideal) ℓ) (c : Dev nD)

/-- The reference's arguments. -/
def whole : Whole where
  x := m ((c.tc : Thread nD τ).loc main_arg0)
  wdkv := m ((c.tc : Thread nD τ).loc main_arg1)
  wuk := m ((c.tc : Thread nD τ).loc main_arg2)
  wuv := m ((c.tc : Thread nD τ).loc main_arg3)
  wq := m ((c.tc : Thread nD τ).loc main_arg4)
  wqr := m ((c.tc : Thread nD τ).loc main_arg5)
  wkr := m ((c.tc : Thread nD τ).loc main_arg6)
  wo := m ((c.tc : Thread nD τ).loc main_arg7)

/-- The reference's result is the attention of its arguments. -/
theorem ref_value (r : Fin 512) (e : Fin 1024) :
    res_main_v32 m c (ix2 r e) = mOut (whole m c) ⟨r.val / 256, by omega⟩ ⟨r.val % 256, Nat.mod_lt _ (by decide)⟩ e := by
  pointwise [res_main_v32]
  simp only [scale_host]
  rfl

end Reference

end Cert.Mla
end
-- ==== Proof.Operands.lean ====
/-
The kernel's operands and result in extended reals: each device's heads are heads of the whole arrays' attention.
-/
module

public import proofs.«01_k».proof.Proof.Schedule
public import proofs.«01_k».proof.Proof.Attention

@[expose] public section

noncomputable section

namespace Cert.Mla

open Cert.KernelIdeal Cert.KernelIdeal.Gen
open Idealize.ShloMosaic

/-! ## One head -/

/-- The attention of one head on one half of the rows, from its operands. -/
def headOut (q : FVec Ideal S256x64 .bf16) (qr : FVec Ideal S256x32 .bf16) (k : FVec Ideal S256x64 .bf16) (kr : FVec Ideal S256x32 .bf16)
    (v : FVec Ideal S256x64 .bf16) : FVec Ideal S1x256x64 .bf16 :=
  k0_pay44 v (concatenate S256x96 1 [⟨S256x64, q⟩, ⟨S256x32, qr⟩] concatenates_S256x64_S256x32_S256x96_d1)
    (concatenate S256x96 1 [⟨S256x64, k⟩, ⟨S256x32, kr⟩] concatenates_S256x64_S256x32_S256x96_d1) (constant S256x256 .f32 0x00000000#32)

theorem headOut_at (q : FVec Ideal S256x64 .bf16) (qr : FVec Ideal S256x32 .bf16) (k : FVec Ideal S256x64 .bf16) (kr : FVec Ideal S256x32 .bf16)
    (v : FVec Ideal S256x64 .bf16) (s : Fin 256) (d : Fin 64) :
    headOut q qr k kr v (ix3 0 s d) = att (fun t => (∑ x, q (ix2 s x) * k (ix2 t x) + ∑ x, qr (ix2 s x) * kr (ix2 t x)) * scale)
      (fun t => v (ix2 t d)) := by
  pointwise [headOut, k0_pay44]
  unfold att
  exact Finset.sum_congr rfl fun t _ => mul_comm _ _

/-- Rows `256 b …` and columns `w h …` of an array are in bounds. -/
theorem cut64 : ∀ (b : Fin 2) (h : Fin 4), S512x256.Slices ![256 * b.val, 64 * h.val] S256x64 := by decide
theorem cut32 : ∀ (b : Fin 2) (h : Fin 4), S512x128.Slices ![256 * b.val, 32 * h.val] S256x32 := by decide
theorem cut0 : ∀ b : Fin 2, S512x32.Slices ![256 * b.val, 0] S256x32 := by decide

section Values
variable (I : Dev nD → Ins Ideal) (c : Dev nD)

/-- Every head's attention is the same function of its columns. -/
theorem od_eq (b : Fin 2) (h : Fin 4) : od I c b h = headOut (extractStridedSlice S256x64 ![256 * b.val, 64 * h.val] (qv I c) (cut64 b h))
    (extractStridedSlice S256x32 ![256 * b.val, 32 * h.val] (qr I c) (cut32 b h)) (extractStridedSlice S256x64 ![256 * b.val, 64 * h.val] (kf I c) (cut64 b h))
    (extractStridedSlice S256x32 ![256 * b.val, 0] (kr I c) (cut0 b)) (extractStridedSlice S256x64 ![256 * b.val, 64 * h.val] (vf I c) (cut64 b h)) := by
  fin_cases b <;> fin_cases h <;> rfl

/-- Row `s` of half `b`; column `d` of head `h`. -/
def row (b : Fin 2) (s : Fin 256) : Fin 512 := ⟨256 * b.val + s.val, by omega⟩
def c64 (h : Fin 4) (d : Fin 64) : Fin 256 := ⟨64 * h.val + d.val, by omega⟩
def c32 (h : Fin 4) (d : Fin 32) : Fin 128 := ⟨32 * h.val + d.val, by omega⟩

theorem od_at (b : Fin 2) (h : Fin 4) (s : Fin 256) (d : Fin 64) : od I c b h (ix3 0 s d) =
    att (fun t => (∑ x, qv I c (ix2 (row b s) (c64 h x)) * kf I c (ix2 (row b t) (c64 h x))
        + ∑ x, qr I c (ix2 (row b s) (c32 h x)) * kr I c (ix2 (row b t) x)) * scale)
      (fun t => vf I c (ix2 (row b t) (c64 h d))) := by
  rw [od_eq, headOut_at]
  pointwise
  rfl

/-! ## The operands -/

/-- Device `c` holds block `y` of the compressing and of the expanding matrices, and the other arrays whole. -/
structure Holds (A : Whole) : Prop where
  x : ∀ c b s d, (I c).x (ix3 b s d) = A.x (ix3 b s d)
  wdkv : ∀ c d (j : Fin 64), (I c).wdkv (ix2 d j) = A.wdkv (ix2 d (c64 (yc c) j))
  wuk : ∀ c (j : Fin 64) y, (I c).wuk (ix2 j y) = A.wuk (ix2 (c64 (yc c) j) y)
  wuv : ∀ c (j : Fin 64) y, (I c).wuv (ix2 j y) = A.wuv (ix2 (c64 (yc c) j) y)
  wq : ∀ c d y, (I c).wq (ix2 d y) = A.wq (ix2 d y)
  wqr : ∀ c d y, (I c).wqr (ix2 d y) = A.wqr (ix2 d y)
  wkr : ∀ c d y, (I c).wkr (ix2 d y) = A.wkr (ix2 d y)
  wo : ∀ c y e, (I c).wo (ix2 y e) = A.wo (ix2 y e)

variable {I} {A : Whole} (H : Holds I A)

/-- The half and the row within it of a row of 512. -/
def rb (r : Fin 512) : Fin 2 := ⟨r.val / 256, by omega⟩
def rs (r : Fin 512) : Fin 256 := ⟨r.val % 256, Nat.mod_lt _ (by decide)⟩

theorem rb_row (b : Fin 2) (s : Fin 256) : rb (row b s) = b := Fin.ext (by show (256 * b.val + s.val) / 256 = b.val; omega)
theorem rs_row (b : Fin 2) (s : Fin 256) : rs (row b s) = s := Fin.ext (by show (256 * b.val + s.val) % 256 = s.val; omega)

/-- Column `y` of device coordinate `p`'s quarter of 1024, and of 512. -/
def q256 (p : Fin 4) (y : Fin 256) : Fin 1024 := ⟨256 * p.val + y.val, by omega⟩
def q128 (p : Fin 4) (y : Fin 128) : Fin 512 := ⟨128 * p.val + y.val, by omega⟩

/-- A quarter of the columns of a matrix. -/
theorem rd_col (A₀ : ℕ) (p : Fin 4) (w : FVec Ideal (⟨2, ![A₀, 1024]⟩ : Shape) .f32) (j : Fin A₀) (y : Fin 256) :
    rd (colR A₀ p) w (ix2 j y) = w (ix2 j (q256 p y)) :=
  congrArg w (funext fun a => Fin.ext (by
    fin_cases a
    · show 0 + 1 * j.val = j.val; omega
    · show 256 * p.val + 1 * y.val = 256 * p.val + y.val; omega))

theorem rd_col' (p : Fin 4) (w : FVec Ideal S1024x512 .f32) (j : Fin 1024) (y : Fin 128) :
    rd (colR' p) w (ix2 j y) = w (ix2 j (q128 p y)) :=
  congrArg w (funext fun a => Fin.ext (by
    fin_cases a
    · show 0 + 1 * j.val = j.val; omega
    · show 128 * p.val + 1 * y.val = 128 * p.val + y.val; omega))

/-- Four blocks of 64 laid end to end. -/
theorem four {α : Type} (g : Fin 256 → α) (f : Fin 4 → Fin 64 → α) (hf : ∀ p j, f p j = g (c64 p j)) (x : Fin 256) :
    (if h : x.val < 64 then f 0 ⟨x.val, h⟩ else if h : x.val - 64 < 64 then f 1 ⟨x.val - 64, h⟩
      else if h : x.val - 64 - 64 < 64 then f 2 ⟨x.val - 64 - 64, h⟩
      else f 3 ⟨x.val - 64 - 64 - 64, by omega⟩) = g x := by
  split_ifs <;> rw [hf] <;> refine congrArg g (Fin.ext ?_)
  · show 64 * 0 + x.val = x.val; omega
  · show 64 * 1 + (x.val - 64) = x.val; omega
  · show 64 * 2 + (x.val - 64 - 64) = x.val; omega
  · show 64 * 3 + (x.val - 64 - 64 - 64) = x.val; omega

include H

theorem cS_at (r : Fin 512) (j : Fin 64) : cS I c (ix3 0 r j) = mC A (rb r) (rs r) (c64 (yc c) j) := by
  pointwise [cS, k0_pay2, k0_pay3, k0_pay1]
  exact Finset.sum_congr rfl fun d _ => by rw [H.x, H.wdkv]; rfl

theorem wkS_at (p : Fin 4) (j : Fin 64) (y : Fin 256) : wkS I c p (ix3 0 j y) = A.wuk (ix2 (c64 (yc c) j) (q256 p y)) := by
  pointwise [wkS, k0_pay4]
  exact (rd_col 64 p _ j y).trans (H.wuk ..)

theorem wvS_at (p : Fin 4) (j : Fin 64) (y : Fin 256) : wvS I c p (ix3 0 j y) = A.wuv (ix2 (c64 (yc c) j) (q256 p y)) := by
  pointwise [wvS, k0_pay5]
  exact (rd_col 64 p _ j y).trans (H.wuv ..)

theorem qv_at (r : Fin 512) (y : Fin 256) : qv I c (ix2 r y) = mQ A (rb r) (rs r) (q256 (yc c) y) := by
  pointwise [qv, k0_pay16, k0_pay1]
  exact Finset.sum_congr rfl fun d _ => by rw [H.x, rd_col, H.wq]; rfl

theorem qr_at (r : Fin 512) (y : Fin 128) : qr I c (ix2 r y) = mQr A (rb r) (rs r) (q128 (yc c) y) := by
  pointwise [qr, k0_pay17, k0_pay1]
  exact Finset.sum_congr rfl fun d _ => by rw [H.x, rd_col', H.wqr]; rfl

theorem kr_at (r : Fin 512) (y : Fin 32) : kr I c (ix2 r y) = mKr A (rb r) (rs r) y := by
  pointwise [kr, k0_pay18, k0_pay1]
  exact Finset.sum_congr rfl fun d _ => by rw [H.x, H.wkr]; rfl

theorem cf_at (r : Fin 512) (j : Fin 256) : cf I c (ix2 r j) = mC A (rb r) (rs r) j := by
  pointwise [cf, k0_pay20]
  exact four (mC A (rb r) (rs r)) (fun p j => cS I (pr c p) (ix3 0 r j)) (fun p j => by rw [cS_at _ H, yc_pr]) j

theorem kf_at (r : Fin 512) (y : Fin 256) : kf I c (ix2 r y) = mK A (rb r) (rs r) (q256 (yc c) y) := by
  pointwise [kf, k0_pay21, k0_pay22, k0_pay23]
  refine Finset.sum_congr rfl fun j _ => ?_
  rw [cf_at c H]
  exact congrArg (_ * ·) (four (fun j => A.wuk (ix2 j (q256 (yc c) y))) (fun p j => wkS I (pr c p) (yc c) (ix3 0 j y))
    (fun p j => by rw [wkS_at _ H, yc_pr]) j)

theorem vf_at (r : Fin 512) (y : Fin 256) : vf I c (ix2 r y) = mV A (rb r) (rs r) (q256 (yc c) y) := by
  pointwise [vf, k0_pay24]
  refine Finset.sum_congr rfl fun j _ => ?_
  rw [cf_at c H]
  exact congrArg (_ * ·) (four (fun j => A.wuv (ix2 j (q256 (yc c) y))) (fun p j => wvS I (pr c p) (yc c) (ix3 0 j y))
    (fun p j => by rw [wvS_at _ H, yc_pr]) j)

/-! ## The heads and the result -/

/-- Head `h` of device `c` is head `4 y + h`. -/
theorem od_whole (b : Fin 2) (h : Fin 4) (s : Fin 256) (d : Fin 64) :
    od I c b h (ix3 0 s d) = mO A b s (q256 (yc c) (c64 h d)) := by
  have e1 : ∀ x, hcol (q256 (yc c) (c64 h d)) x = q256 (yc c) (c64 h x) := fun x => Fin.ext (by
    show (256 * (yc c).val + (64 * h.val + d.val)) / 64 * 64 + x.val = 256 * (yc c).val + (64 * h.val + x.val); omega)
  have e2 : ∀ x, rcol (q256 (yc c) (c64 h d)) x = q128 (yc c) (c32 h x) := fun x => Fin.ext (by
    show (256 * (yc c).val + (64 * h.val + d.val)) / 64 * 32 + x.val = 128 * (yc c).val + (32 * h.val + x.val); omega)
  rw [od_at]
  unfold mO mS
  simp only [qv_at c H, kf_at c H, qr_at c H, kr_at c H, vf_at c H, rb_row, rs_row, e1, e2]

/-- Row `s` of half `b` of the gathered heads. -/
theorem OB_at (p : Fin 4) (b : Fin 2) (s y : Fin 256) : rd (halfR p b) (OB I c) (ix3 0 s y) = mO A b s (q256 p y) := by
  have e : OB I c ((halfR p b).emb (ix3 0 s y)) = osl I (pr c p) (ix3 0 (row b s) y) := by
    have i0 : (halfR p b).emb (ix3 0 s y) 0 = p := Fin.ext (by show p.val + 1 * 0 = p.val; omega)
    have i1 : (halfR p b).emb (ix3 0 s y) 1 = row b s := Fin.ext (by show 256 * b.val + 1 * s.val = 256 * b.val + s.val; omega)
    have i2 : (halfR p b).emb (ix3 0 s y) 2 = y := Fin.ext (by show 0 + 1 * y.val = y.val; omega)
    show osl I (pr c ((halfR p b).emb (ix3 0 s y) 0)) (ValueIdx.ix3 (0 : Fin 1) ((halfR p b).emb (ix3 0 s y) 1) ((halfR p b).emb (ix3 0 s y) 2)) = _
    rw [i0, i1, i2]
    exact congrArg _ (funext fun a => by fin_cases a <;> rfl)
  refine e.trans ?_
  have hb : (⟨(row b s).val / 256, by have := (row b s).isLt; omega⟩ : Fin 2) = b := rb_row b s
  have hs : (⟨(row b s).val % 256, Nat.mod_lt _ (by decide)⟩ : Fin 256) = s := rs_row b s
  show od I (pr c p) ⟨(row b s).val / 256, _⟩ ⟨y.val / 64, _⟩ (ValueIdx.ix3 (0 : Fin 1) (⟨(row b s).val % 256, _⟩ : Fin 256) (⟨y.val % 64, _⟩ : Fin 64)) = _
  rw [hb, hs]
  have hi : ∀ (u : Fin 256) (d : Fin 64), (ValueIdx.ix3 (0 : Fin 1) u d : S1x256x64.Idx) = ix3 0 u d := fun u d => funext fun a => by fin_cases a <;> rfl
  rw [hi, od_whole (pr c p) H, yc_pr]
  exact congrArg (mO A b s) (Fin.ext (by show 256 * p.val + (64 * (y.val / 64) + y.val % 64) = 256 * p.val + y.val; omega))

/-- Four contractions over 256 are one over 1024. -/
theorem out_sum (b : Fin 2) (s : Fin 256) (e : Fin 1024) : mOut A b s e =
    ∑ y, rd (halfR 0 b) (OB I c) (ix3 0 s y) * (I c).wo (ix2 ⟨y.val, by omega⟩ e)
    + ∑ y, rd (halfR 1 b) (OB I c) (ix3 0 s y) * (I c).wo (ix2 ⟨256 + y.val, by omega⟩ e)
    + ∑ y, rd (halfR 2 b) (OB I c) (ix3 0 s y) * (I c).wo (ix2 ⟨512 + y.val, by omega⟩ e)
    + ∑ y, rd (halfR 3 b) (OB I c) (ix3 0 s y) * (I c).wo (ix2 ⟨768 + y.val, by omega⟩ e) := by
  unfold mOut
  rw [Fin.sum_univ_tiles 4 256 (by decide), Fin.sum_univ_four]
  simp only [OB_at c H, H.wo]
  have key : ∀ (p : Fin 4) (n : ℕ) (hn : n = 256 * p.val) (y : Fin 256) (h₁ h₂),
      mO A b s ⟨p.val * 256 + y.val, h₁⟩ * A.wo (ix2 (⟨p.val * 256 + y.val, h₁⟩ : Fin 1024) e) = mO A b s (q256 p y) * A.wo (ix2 (⟨n + y.val, h₂⟩ : Fin 1024) e) := by
    intro p n hn y h₁ h₂
    have e1 : (⟨p.val * 256 + y.val, h₁⟩ : Fin 1024) = q256 p y := Fin.ext (by show p.val * 256 + y.val = 256 * p.val + y.val; omega)
    have e2 : (⟨n + y.val, h₂⟩ : Fin 1024) = q256 p y := Fin.ext (by show n + y.val = 256 * p.val + y.val; omega)
    rw [e1, e2]
  have z : ∀ y : Fin 256, (⟨y.val, by omega⟩ : Fin 1024) = ⟨0 + y.val, by omega⟩ := fun y => Fin.ext (Nat.zero_add _).symm
  refine congr_arg₂ _ (congr_arg₂ _ (congr_arg₂ _ ?_ ?_) ?_) ?_ <;> refine Finset.sum_congr rfl fun y _ => ?_
  · rw [z]; exact key 0 0 rfl y _ _
  · exact key 1 256 rfl y _ _
  · exact key 2 512 rfl y _ _
  · exact key 3 768 rfl y _ _

theorem outH_at (b : Fin 2) (s : Fin 256) (e : Fin 1024) : outH I c b (ix2 s e) = mOut A b s e := by
  rw [out_sum c H]
  fin_cases b
  · show k0_pay45 (k0_pay19 (I c).wo) (rd (halfR 0 0) (OB I c)) (rd (halfR 1 0) (OB I c)) (rd (halfR 2 0) (OB I c)) (rd (halfR 3 0) (OB I c)) _ = _
    pointwise [k0_pay45, k0_pay19]
  · show k0_pay46 (k0_pay19 (I c).wo) (rd (halfR 0 1) (OB I c)) (rd (halfR 1 1) (OB I c)) (rd (halfR 2 1) (OB I c)) (rd (halfR 3 1) (OB I c)) _ = _
    pointwise [k0_pay46, k0_pay19]

/-- Every device's result is the whole arrays' attention. -/
theorem outAt_at (r : Fin 512) (e : Fin 1024) : outAt I c (ix2 r e) = mOut A (rb r) (rs r) e := by
  rw [← outH_at c H]
  exact congrArg (outH I c (rb r)) (funext fun a => by fin_cases a <;> rfl)

end Values

end Cert.Mla
end
-- ==== Proof.Equal.lean ====
/-
The kernel and the reference have one result in extended reals.
-/
module

public import proofs.«01_k».proof.Proof.Frames
public import proofs.«01_k».proof.Proof.Operands
public import Idealize.ShloMosaic.Lib.LayoutAt

@[expose] public section

noncomputable section

namespace Cert.Mla

open Idealize.ShloMosaic
open Idealize.SL.Sem

/-- The block that the mesh gives a device is numbered by its coordinate on the axis "y". -/
theorem block_col : ∀ c : Fin 32, ((Layout.meshBlock [2, 4, 4] ![[], [1]] c) (1 : Fin 2)).val = c.val / 4 % 4
    ∧ ((Layout.meshBlock [2, 4, 4] ![[], [1]] c) (0 : Fin 2)).val = 0 := by decide
theorem block_row : ∀ c : Fin 32, ((Layout.meshBlock [2, 4, 4] ![[1], []] c) (0 : Fin 2)).val = c.val / 4 % 4
    ∧ ((Layout.meshBlock [2, 4, 4] ![[1], []] c) (1 : Fin 2)).val = 0 := by decide

/-- A block of columns, and of rows, of a whole matrix, read at an index. -/
theorem cols_at (v : FVec Ideal (⟨2, ![1024, 256]⟩ : Shape) .f32) (c : Fin 32) (d : Fin 1024) (j : Fin 64) :
    Layout.blockN ⟨2, ![1024, 64]⟩ ⟨2, ![1024, 256]⟩ (Layout.meshBlock [2, 4, 4] ![[], [1]] c) v (by decide) (ix2 d j) = v (ix2 d (c64 (yc c) j)) := by
  have h := block_col c
  have hy : (yc c).val = c.val / 4 % 4 := rfl
  refine congrArg v (funext fun a => Fin.ext ?_)
  rw [Layout.TilesN.idx_val]
  fin_cases a
  · show ((Layout.meshBlock [2, 4, 4] ![[], [1]] c) (0 : Fin 2)).val * 1024 + d.val = d.val; omega
  · show ((Layout.meshBlock [2, 4, 4] ![[], [1]] c) (1 : Fin 2)).val * 64 + j.val = 64 * (yc c).val + j.val; omega

theorem rows_at (v : FVec Ideal (⟨2, ![256, 1024]⟩ : Shape) .f32) (c : Fin 32) (j : Fin 64) (d : Fin 1024) :
    Layout.blockN ⟨2, ![64, 1024]⟩ ⟨2, ![256, 1024]⟩ (Layout.meshBlock [2, 4, 4] ![[1], []] c) v (by decide) (ix2 j d) = v (ix2 (c64 (yc c) j) d) := by
  have h := block_row c
  have hy : (yc c).val = c.val / 4 % 4 := rfl
  refine congrArg v (funext fun a => Fin.ext ?_)
  rw [Layout.TilesN.idx_val]
  fin_cases a
  · show ((Layout.meshBlock [2, 4, 4] ![[1], []] c) (0 : Fin 2)).val * 64 + j.val = 64 * (yc c).val + j.val; omega
  · show ((Layout.meshBlock [2, 4, 4] ![[1], []] c) (1 : Fin 2)).val * 1024 + d.val = d.val; omega

/-- Every index of a matrix is the index of its two coordinates. -/
theorem ix2_eta (i : (⟨2, ![512, 1024]⟩ : Shape).Idx) : i = ix2 (i 0 : Fin 512) (i 1 : Fin 1024) := funext fun a => by fin_cases a <;> rfl

/-- From arguments that are the parts of the same arrays the two programs end with the same result, on every device. -/
theorem equal : Cert.algebraic_KernelIdeal_ReferenceIdeal := fun m g m' g' _ h => by
  have H : Holds (ins m) (whole m' 0) := {
    x := fun c b s d => congrFun (h c).1 (ix3 b s d)
    wdkv := fun c d j => (congrFun (h c).2.1 (ix2 d j)).trans (cols_at _ c d j)
    wuk := fun c j y => (congrFun (h c).2.2.1 (ix2 j y)).trans (rows_at _ c j y)
    wuv := fun c j y => (congrFun (h c).2.2.2.1 (ix2 j y)).trans (rows_at _ c j y)
    wq := fun c d y => congrFun (h c).2.2.2.2.1 (ix2 d y)
    wqr := fun c d y => congrFun (h c).2.2.2.2.2.1 (ix2 d y)
    wkr := fun c d y => congrFun (h c).2.2.2.2.2.2.1 (ix2 d y)
    wo := fun c y e => congrFun (h c).2.2.2.2.2.2.2 (ix2 y e) }
  have key : ∀ c, outAt (ins m) c = Cert.ReferenceIdeal.Value.res_main_v32 m' 0 := fun c => funext fun i => by
    rw [ix2_eta i]
    exact (outAt_at c H (i 0) (i 1)).trans (ref_value m' 0 (i 0) (i 1)).symm
  exact ⟨Cert.ReferenceIdeal.Value.res_main_v32 m' 0,
    (θ_run Cert.KernelIdeal.defs _ _).mono (fun _ r c => ⟨(r.1 c).1.trans (key c), (r.1 c).2⟩) (run_out (F := Ideal) m g),
    (θ_run Cert.ReferenceIdeal.defs _ _).mono (fun _ r => r 0) (Cert.ReferenceIdeal.Value.run (F := Ideal) m' g')⟩

end Cert.Mla
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Equal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  exact ⟨Cert.Mla.frame_kernel, Cert.Mla.frame_ideal, Cert.Mla.frame_reference, Cert.Mla.names, Cert.Mla.equal⟩⟩

end Cert.Proof

end
